-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.bf16_pair.Statement Cert.KernelIdeal.S256x2x128 Cert.KernelIdeal.S256x1x128
  ∧ IdealRules.bf16_pair.Statement Cert.KernelIdeal.S512x128 Cert.KernelIdeal.S256x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)) (v3 : (c : Dev Cert.KernelIdeal.nD) → Buf (Elt Ideal) ((c.tc : Thread Cert.KernelIdeal.nD Cert.KernelIdeal.τ).loc Cert.KernelIdeal.main_v5_3)) (v4 : (c : Dev Cert.KernelIdeal.nD) → Buf (Elt Ideal) ((c.tc : Thread Cert.KernelIdeal.nD Cert.KernelIdeal.τ).loc Cert.KernelIdeal.main_v5_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_v5_3) = v3 c
          ∧ r.2.mem ((c.tc : Thread Cert.KernelIdeal.nD Cert.KernelIdeal.τ).loc Cert.KernelIdeal.main_v5_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19_0) = v0 c
          ∧ r.2.mem ((c.tc : Thread Cert.ReferenceIdeal.nD Cert.ReferenceIdeal.τ).loc Cert.ReferenceIdeal.main_v19_1) = v1 c
          ∧ r.2.mem ((c.tc : Thread Cert.ReferenceIdeal.nD Cert.ReferenceIdeal.τ).loc Cert.ReferenceIdeal.main_v19_2) = v2 c
          ∧ r.2.mem ((c.tc : Thread Cert.ReferenceIdeal.nD Cert.ReferenceIdeal.τ).loc Cert.ReferenceIdeal.main_v19_3) = v3 c
          ∧ r.2.mem ((c.tc : Thread Cert.ReferenceIdeal.nD Cert.ReferenceIdeal.τ).loc Cert.ReferenceIdeal.main_v19_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S9216x1280 : Shape := ⟨2, ![9216, 1280]⟩
abbrev S1280 : Shape := ⟨1, ![1280]⟩
abbrev S5120x5120 : Shape := ⟨2, ![5120, 5120]⟩
abbrev S5120 : Shape := ⟨1, ![5120]⟩
abbrev S5120x2048 : Shape := ⟨2, ![5120, 2048]⟩
abbrev S2048 : Shape := ⟨1, ![2048]⟩
abbrev S1x1280 : Shape := ⟨2, ![1, 1280]⟩
abbrev S1x5120 : Shape := ⟨2, ![1, 5120]⟩
abbrev S1x2048 : Shape := ⟨2, ![1, 2048]⟩
abbrev S2304x5120 : Shape := ⟨2, ![2304, 5120]⟩
abbrev S9x1x256 : Shape := ⟨3, ![9, 1, 256]⟩
abbrev S36864x128 : Shape := ⟨2, ![36864, 128]⟩
abbrev S1024x128 : Shape := ⟨2, ![1024, 128]⟩
abbrev S256x5120 : Shape := ⟨2, ![256, 5120]⟩
abbrev S1x1x256 : Shape := ⟨3, ![1, 1, 256]⟩
abbrev S4096x128 : Shape := ⟨2, ![4096, 128]⟩
abbrev S512x128 : Shape := ⟨2, ![512, 128]⟩
abbrev S256x128 : Shape := ⟨2, ![256, 128]⟩
abbrev S512x2x128 : Shape := ⟨3, ![512, 2, 128]⟩
abbrev S256x2x128 : Shape := ⟨3, ![256, 2, 128]⟩
abbrev S256x1x128 : Shape := ⟨3, ![256, 1, 128]⟩
abbrev S256 : Shape := ⟨1, ![256]⟩
abbrev S256x1 : Shape := ⟨2, ![256, 1]⟩
abbrev S1x128 : Shape := ⟨2, ![1, 128]⟩
abbrev S128x256 : Shape := ⟨2, ![128, 256]⟩
abbrev S1x256 : Shape := ⟨2, ![1, 256]⟩
abbrev S5120x512 : Shape := ⟨2, ![5120, 512]⟩
abbrev S256x512 : Shape := ⟨2, ![256, 512]⟩
abbrev S1x512 : Shape := ⟨2, ![1, 512]⟩

abbrev nBuf : Space → Nat
  | .hbm => 18
  | .vmem => 39
  | .smem => 0
  | _ => 0

abbrev bufTy : (tb : Table) → Fin (tcTables nBuf tb) → BufTy
  | .hbm, ⟨0, _⟩ => ⟨S9216x1280, .bf16⟩
  | .hbm, ⟨1, _⟩ => ⟨S1280, .f32⟩
  | .hbm, ⟨2, _⟩ => ⟨S5120x5120, .fp8e4m3⟩
  | .hbm, ⟨3, _⟩ => ⟨S5120, .f32⟩
  | .hbm, ⟨4, _⟩ => ⟨S5120, .f32⟩
  | .hbm, ⟨5, _⟩ => ⟨S5120x2048, .fp8e4m3⟩
  | .hbm, ⟨6, _⟩ => ⟨S2048, .f32⟩
  | .hbm, ⟨7, _⟩ => ⟨S2048, .f32⟩
  | .hbm, ⟨8, _⟩ => ⟨S1x1280, .f32⟩
  | .hbm, ⟨9, _⟩ => ⟨S1x5120, .f32⟩
  | .hbm, ⟨10, _⟩ => ⟨S1x5120, .f32⟩
  | .hbm, ⟨11, _⟩ => ⟨S1x2048, .f32⟩
  | .hbm, ⟨12, _⟩ => ⟨S1x2048, .f32⟩
  | .hbm, ⟨13, _⟩ => ⟨S2304x5120, .fp8e4m3⟩
  | .hbm, ⟨14, _⟩ => ⟨S9x1x256, .f32⟩
  | .hbm, ⟨15, _⟩ => ⟨S2304x5120, .fp8e4m3⟩
  | .hbm, ⟨16, _⟩ => ⟨S9x1x256, .f32⟩
  | .hbm, ⟨17, _⟩ => ⟨S36864x128, .f32⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .bf16⟩
  | .local _ .vmem, ⟨5, _⟩ => ⟨S1024x128, .bf16⟩
  | .local _ .vmem, ⟨6, _⟩ => ⟨S1024x128, .bf16⟩
  | .local _ .vmem, ⟨7, _⟩ => ⟨S1024x128, .bf16⟩
  | .local _ .vmem, ⟨8, _⟩ => ⟨S1024x128, .bf16⟩
  | .local _ .vmem, ⟨9, _⟩ => ⟨S1024x128, .bf16⟩
  | .local _ .vmem, ⟨10, _⟩ => ⟨S1024x128, .bf16⟩
  | .local _ .vmem, ⟨11, _⟩ => ⟨S1024x128, .bf16⟩
  | .local _ .vmem, ⟨12, _⟩ => ⟨S1024x128, .bf16⟩
  | .local _ .vmem, ⟨13, _⟩ => ⟨S1024x128, .bf16⟩
  | .local _ .vmem, ⟨14, _⟩ => ⟨S1024x128, .bf16⟩
  | .local _ .vmem, ⟨15, _⟩ => ⟨S1024x128, .bf16⟩
  | .local _ .vmem, ⟨16, _⟩ => ⟨S1024x128, .bf16⟩
  | .local _ .vmem, ⟨17, _⟩ => ⟨S1024x128, .bf16⟩
  | .local _ .vmem, ⟨18, _⟩ => ⟨S1024x128, .bf16⟩
  | .local _ .vmem, ⟨19, _⟩ => ⟨S1024x128, .bf16⟩
  | .local _ .vmem, ⟨20, _⟩ => ⟨S1x1280, .f32⟩
  | .local _ .vmem, ⟨21, _⟩ => ⟨S5120x5120, .fp8e4m3⟩
  | .local _ .vmem, ⟨22, _⟩ => ⟨S1x5120, .f32⟩
  | .local _ .vmem, ⟨23, _⟩ => ⟨S1x5120, .f32⟩
  | .local _ .vmem, ⟨24, _⟩ => ⟨S5120x2048, .fp8e4m3⟩
  | .local _ .vmem, ⟨25, _⟩ => ⟨S1x2048, .f32⟩
  | .local _ .vmem, ⟨26, _⟩ => ⟨S1x2048, .f32⟩
  | .local _ .vmem, ⟨27, _⟩ => ⟨S256x5120, .fp8e4m3⟩
  | .local _ .vmem, ⟨28, _⟩ => ⟨S256x5120, .fp8e4m3⟩
  | .local _ .vmem, ⟨29, _⟩ => ⟨S1x1x256, .f32⟩
  | .local _ .vmem, ⟨30, _⟩ => ⟨S1x1x256, .f32⟩
  | .local _ .vmem, ⟨31, _⟩ => ⟨S256x5120, .fp8e4m3⟩
  | .local _ .vmem, ⟨32, _⟩ => ⟨S256x5120, .fp8e4m3⟩
  | .local _ .vmem, ⟨33, _⟩ => ⟨S1x1x256, .f32⟩
  | .local _ .vmem, ⟨34, _⟩ => ⟨S1x1x256, .f32⟩
  | .local _ .vmem, ⟨35, _⟩ => ⟨S4096x128, .f32⟩
  | .local _ .vmem, ⟨36, _⟩ => ⟨S4096x128, .f32⟩
  | .local _ .vmem, ⟨37, _⟩ => ⟨S256x5120, .f32⟩
  | .local _ .vmem, ⟨38, _⟩ => ⟨S256x5120, .f32⟩
  | _, _ => ⟨S9216x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev main_v5_3 : Ref sig .tc := ⟨.hbm, 16, rfl⟩
abbrev main_v5_4 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_stg20_0 : Ref sig .tc := ⟨.vmem, 33, rfl⟩
abbrev cc0_stg20_1 : Ref sig .tc := ⟨.vmem, 34, rfl⟩
abbrev cc0_stg21_0 : Ref sig .tc := ⟨.vmem, 35, rfl⟩
abbrev cc0_stg21_1 : Ref sig .tc := ⟨.vmem, 36, rfl⟩
abbrev cc0_scratch0 : Ref sig .tc := ⟨.vmem, 37, rfl⟩
abbrev cc0_scratch1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem16_0 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32
abbrev cc0_sem20_0 : DmaSem sig := 33
abbrev cc0_sem20_1 : DmaSem sig := 34
abbrev cc0_sem21_0 : DmaSem sig := 35
abbrev cc0_sem21_1 : DmaSem sig := 36

abbrev nD : Nat := 1
abbrev τ : Topo := Topo.v7x

variable {F : FTy → Type} [BitOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_5 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_6 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_7 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_8 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_9 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1280 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S5120x5120 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x5120 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x5120 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S5120x2048 .fp8e4m3 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x2048 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x2048 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S256x5120 .fp8e4m3 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x1x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x5120 .fp8e4m3 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x1x256 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S4096x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== KernelIdeal.lean ====
variable {F : FTy → Type} [FloatOps F]
-- ==== ReferenceIdeal.lean ====
abbrev S9216x1280 : Shape := ⟨2, ![9216, 1280]⟩
abbrev S1280 : Shape := ⟨1, ![1280]⟩
abbrev S5120x5120 : Shape := ⟨2, ![5120, 5120]⟩
abbrev S5120 : Shape := ⟨1, ![5120]⟩
abbrev S5120x2048 : Shape := ⟨2, ![5120, 2048]⟩
abbrev S2048 : Shape := ⟨1, ![2048]⟩
abbrev S_ : Shape := ⟨0, ![]⟩
abbrev S9216 : Shape := ⟨1, ![9216]⟩
abbrev S9216x1 : Shape := ⟨2, ![9216, 1]⟩
abbrev S1x1280 : Shape := ⟨2, ![1, 1280]⟩
abbrev S2304x5120 : Shape := ⟨2, ![2304, 5120]⟩
abbrev S1x5120 : Shape := ⟨2, ![1, 5120]⟩
abbrev S1x2048 : Shape := ⟨2, ![1, 2048]⟩
abbrev S9x1x256 : Shape := ⟨3, ![9, 1, 256]⟩
abbrev S36864x128 : Shape := ⟨2, ![36864, 128]⟩
abbrev S2304 : Shape := ⟨1, ![2304]⟩
abbrev S2304x1 : Shape := ⟨2, ![2304, 1]⟩
abbrev S2304x2048 : Shape := ⟨2, ![2304, 2048]⟩

abbrev nBuf : Space → Nat
  | .hbm => 35
  | .vmem => 12
  | .smem => 0
  | _ => 0

abbrev bufTy : (tb : Table) → Fin (tcTables nBuf tb) → BufTy
  | .hbm, ⟨0, _⟩ => ⟨S9216x1280, .bf16⟩
  | .hbm, ⟨1, _⟩ => ⟨S1280, .f32⟩
  | .hbm, ⟨2, _⟩ => ⟨S5120x5120, .fp8e4m3⟩
  | .hbm, ⟨3, _⟩ => ⟨S5120, .f32⟩
  | .hbm, ⟨4, _⟩ => ⟨S5120, .f32⟩
  | .hbm, ⟨5, _⟩ => ⟨S5120x2048, .fp8e4m3⟩
  | .hbm, ⟨6, _⟩ => ⟨S2048, .f32⟩
  | .hbm, ⟨7, _⟩ => ⟨S2048, .f32⟩
  | .hbm, ⟨8, _⟩ => ⟨S9216x1280, .f32⟩
  | .hbm, ⟨9, _⟩ => ⟨S9216x1280, .f32⟩
  | .hbm, ⟨10, _⟩ => ⟨S_, .f32⟩
  | .hbm, ⟨11, _⟩ => ⟨S9216, .f32⟩
  | .hbm, ⟨12, _⟩ => ⟨S9216x1, .f32⟩
  | .hbm, ⟨13, _⟩ => ⟨S_, .f32⟩
  | .hbm, ⟨14, _⟩ => ⟨S9216x1, .f32⟩
  | .hbm, ⟨15, _⟩ => ⟨S9216x1, .f32⟩
  | .hbm, ⟨16, _⟩ => ⟨S_, .f32⟩
  | .hbm, ⟨17, _⟩ => ⟨S9216x1, .f32⟩
  | .hbm, ⟨18, _⟩ => ⟨S9216x1, .f32⟩
  | .hbm, ⟨19, _⟩ => ⟨S9216x1, .f32⟩
  | .hbm, ⟨20, _⟩ => ⟨S9216x1280, .f32⟩
  | .hbm, ⟨21, _⟩ => ⟨S9216x1280, .f32⟩
  | .hbm, ⟨22, _⟩ => ⟨S1x1280, .f32⟩
  | .hbm, ⟨23, _⟩ => ⟨S9216x1280, .f32⟩
  | .hbm, ⟨24, _⟩ => ⟨S9216x1280, .f32⟩
  | .hbm, ⟨25, _⟩ => ⟨S2304x5120, .f32⟩
  | .hbm, ⟨26, _⟩ => ⟨S1x5120, .f32⟩
  | .hbm, ⟨27, _⟩ => ⟨S1x5120, .f32⟩
  | .hbm, ⟨28, _⟩ => ⟨S1x2048, .f32⟩
  | .hbm, ⟨29, _⟩ => ⟨S1x2048, .f32⟩
  | .hbm, ⟨30, _⟩ => ⟨S2304x5120, .fp8e4m3⟩
  | .hbm, ⟨31, _⟩ => ⟨S9x1x256, .f32⟩
  | .hbm, ⟨32, _⟩ => ⟨S2304x5120, .fp8e4m3⟩
  | .hbm, ⟨33, _⟩ => ⟨S9x1x256, .f32⟩
  | .hbm, ⟨34, _⟩ => ⟨S36864x128, .f32⟩
  | .local _ .vmem, ⟨0, _⟩ => ⟨S2304x5120, .f32⟩
  | .local _ .vmem, ⟨1, _⟩ => ⟨S5120x5120, .fp8e4m3⟩
  | .local _ .vmem, ⟨2, _⟩ => ⟨S1x5120, .f32⟩
  | .local _ .vmem, ⟨3, _⟩ => ⟨S1x5120, .f32⟩
  | .local _ .vmem, ⟨4, _⟩ => ⟨S5120x2048, .fp8e4m3⟩
  | .local _ .vmem, ⟨5, _⟩ => ⟨S1x2048, .f32⟩
  | .local _ .vmem, ⟨6, _⟩ => ⟨S1x2048, .f32⟩
  | .local _ .vmem, ⟨7, _⟩ => ⟨S2304x5120, .fp8e4m3⟩
  | .local _ .vmem, ⟨8, _⟩ => ⟨S9x1x256, .f32⟩
  | .local _ .vmem, ⟨9, _⟩ => ⟨S2304x5120, .fp8e4m3⟩
  | .local _ .vmem, ⟨10, _⟩ => ⟨S9x1x256, .f32⟩
  | .local _ .vmem, ⟨11, _⟩ => ⟨S36864x128, .f32⟩
  | _, _ => ⟨S9216x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19_0 : Ref sig .tc := ⟨.hbm, 30, rfl⟩
abbrev main_v19_1 : Ref sig .tc := ⟨.hbm, 31, rfl⟩
abbrev main_v19_2 : Ref sig .tc := ⟨.hbm, 32, rfl⟩
abbrev main_v19_3 : Ref sig .tc := ⟨.hbm, 33, rfl⟩
abbrev main_v19_4 : Ref sig .tc := ⟨.hbm, 34, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S2304x5120 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5120x5120 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x5120 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S5120x2048 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2304x5120 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S9x1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2304x5120 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S9x1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S36864x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.Bits.Runs.lean ====
/- The staging memrefs and scratch buffers of the merger kernel (machine values), named at each grid point, over the
   generated frame kit (Gen/Kernel/Frame.lean). -/
module

public import proofs.«01_k».proof.Proof.Gen.Kernel.Frame
public import proofs.«01_k».proof.Proof.Gen.Kernel.Skeleton
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-! ## The frame claim's post from the frame run's -/

set_option maxHeartbeats 1320000 in
/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(Pipeline.RDat.FramePost.arr_in h c 9 rfl).trans ((hA c 9).trans (V_main_arg0 m c)),
      ((h c).2 main_arg1 (Pipeline.mem_restRefs_of main_arg1 (by decide) (by decide))).trans (V_main_arg1 m c),
      (Pipeline.RDat.FramePost.arr_in h c 11 rfl).trans ((hA c 11).trans (V_main_arg2 m c)),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      (Pipeline.RDat.FramePost.arr_in h c 14 rfl).trans ((hA c 14).trans (V_main_arg5 m c)),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩) h

/-! ## The kernel body on any staging memrefs: a subtype the run finds -/

/-- Each window's current staging memref at point `t`, spelled as the pipeline passes it (`bodyAt0`), and its wholeness. -/
abbrev ms0_0 (t : Fin cfg0.N) : Memref sig .tc .vmem S1024x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x128 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x128 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x128 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x128 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1024x128 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1280 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S5120x5120 .fp8e4m3 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x5120 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x5120 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S5120x2048 .fp8e4m3 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x2048 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x2048 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S256x5120 .fp8e4m3 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S1x1x256 .f32 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S256x5120 .fp8e4m3 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S1x1x256 .f32 := win0_20.stage (cfg0.slots t 20)
abbrev hs0_20 (t : Fin cfg0.N) : (ms0_20 t).IsWhole := hstage0_20 ((cfg0.slots t 20).cast nbuf0_20)
abbrev ms0_21 (t : Fin cfg0.N) : Memref sig .tc .vmem S4096x128 .f32 := win0_21.stage (cfg0.slots t 21)
abbrev hs0_21 (t : Fin cfg0.N) : (ms0_21 t).IsWhole := hstage0_21 ((cfg0.slots t 21).cast nbuf0_21)
/-- The scratch operands: whole scoped buffers of the kernel's own, passed beside the windows. -/
abbrev scM0_0 : Memref sig .tc .vmem S256x5120 .f32 := Memref.whole cc0_scratch0
abbrev scM0_1 : Memref sig .tc .vmem S256x5120 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Body

end
-- ==== Proof.Bits.Run.lean ====
/- The whole-body run of the merger kernel (machine values): the body triple by `sl_exec` over the skeleton. Window 21 is
   stored through sixteen row-strided rectangles. -/
module

public import proofs.«01_k».proof.Proof.Bits.Runs

@[expose] public section

-- membership in a rectangle of production extents (`View.cover_of_tiled`): the elaborator's structural look
-- recurses once per coordinate of the long axes
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 2196000 in
/-- The body's triple: on whole staging memrefs — the inputs' at their contents,
    the FORGOTTEN outputs' (17, 18, 19, 20, 21) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg1 : Memref sig .tc .vmem S1024x128 .bf16) (harg1 : arg1.IsWhole) (arg2 : Memref sig .tc .vmem S1024x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S1024x128 .bf16) (harg9 : arg9.IsWhole) (arg10 : Memref sig .tc .vmem S1024x128 .bf16) (harg10 : arg10.IsWhole) (arg11 : Memref sig .tc .vmem S1x1280 .f32) (harg11 : arg11.IsWhole) (arg12 : Memref sig .tc .vmem S5120x5120 .fp8e4m3) (harg12 : arg12.IsWhole) (arg13 : Memref sig .tc .vmem S1x5120 .f32) (harg13 : arg13.IsWhole) (arg14 : Memref sig .tc .vmem S1x5120 .f32) (harg14 : arg14.IsWhole) (arg15 : Memref sig .tc .vmem S5120x2048 .fp8e4m3) (harg15 : arg15.IsWhole) (arg16 : Memref sig .tc .vmem S1x2048 .f32) (harg16 : arg16.IsWhole) (arg17 : Memref sig .tc .vmem S1x2048 .f32) (harg17 : arg17.IsWhole) (arg18 : Memref sig .tc .vmem S256x5120 .fp8e4m3) (harg18 : arg18.IsWhole) (arg19 : Memref sig .tc .vmem S1x1x256 .f32) (harg19 : arg19.IsWhole) (arg20 : Memref sig .tc .vmem S256x5120 .fp8e4m3) (harg20 : arg20.IsWhole) (arg21 : Memref sig .tc .vmem S1x1x256 .f32) (harg21 : arg21.IsWhole) (arg22 : Memref sig .tc .vmem S4096x128 .f32) (harg22 : arg22.IsWhole) (arg23 : Memref sig .tc .vmem S256x5120 .f32) (harg23 : arg23.IsWhole) (arg24 : Memref sig .tc .vmem S256x5120 .f32) (harg24 : arg24.IsWhole)
    (x0 : Vec F S1024x128 .bf16) (x1 : Vec F S1024x128 .bf16) (x2 : Vec F S1024x128 .bf16) (x3 : Vec F S1024x128 .bf16) (x4 : Vec F S1024x128 .bf16) (x5 : Vec F S1024x128 .bf16) (x6 : Vec F S1024x128 .bf16) (x7 : Vec F S1024x128 .bf16) (x8 : Vec F S1024x128 .bf16) (x9 : Vec F S1024x128 .bf16) (x10 : Vec F S1x1280 .f32) (x11 : Vec F S5120x5120 .fp8e4m3) (x12 : Vec F S1x5120 .f32) (x13 : Vec F S1x5120 .f32) (x14 : Vec F S5120x2048 .fp8e4m3) (x15 : Vec F S1x2048 .f32) (x16 : Vec F S1x2048 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d)) -∗ K ⟨⟩))
          ⊢ wp frame (wpE (defs₀ (F := F)) Variants.none c none) E (cc0_merger i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
    intro E K
    simp only [cc0_merger_eq_skeleton]; unfold cc0_merger_skel
    simp only [k0_part42_eq_skeleton, k0_part43_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, ⟨%d19, %f19, -, H19⟩, ⟨%d20, %f20, -, H20⟩, ⟨%d21, %f21, -, H21⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [HS0]
    · iexists _, _; isplitr; swap; · iexact HS0
      ipureintro; rfl
    iexists _, _; isplitr; swap; · iexact HS1
    ipureintro; rfl

end Cert.Kernel.Body

end
-- ==== Proof.Bits.Frame.lean ====
/- The proof data, the body obligation, the run of @main and the frame of the merger kernel (machine values). -/
module

public import proofs.«01_k».proof.Proof.Bits.Run
public import Idealize.ShloMosaic.Lib.Claim

@[expose] public section

-- membership in a rectangle of production extents (`View.cover_of_tiled`): the elaborator's structural look
-- recurses once per coordinate of the long axes
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (17, 18, 19, 20, 21): nothing reads what the kernel leaves in them, so nothing
    of it is named (Lib/Pipeline/Dat.lean `Dat.toRForget`). -/
def forgets0 : Fin 22 → Bool := fun w => w.val == 17 || w.val == 18 || w.val == 19 || w.val == 20 || w.val == 21

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, h⟩ => Pipeline.Dat.unnamed (cfg := cfg0) ⟨17, h⟩ t
    | ⟨18, h⟩ => Pipeline.Dat.unnamed (cfg := cfg0) ⟨18, h⟩ t
    | ⟨19, h⟩ => Pipeline.Dat.unnamed (cfg := cfg0) ⟨19, h⟩ t
    | ⟨20, h⟩ => Pipeline.Dat.unnamed (cfg := cfg0) ⟨20, h⟩ t
    | ⟨21, h⟩ => Pipeline.Dat.unnamed (cfg := cfg0) ⟨21, h⟩ t
    | ⟨_ + 22, h⟩ => absurd h (Nat.not_lt.2 (Nat.le_add_left _ _))
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare d)
    ∗ (∃ d, owns (c : Thread nD τ) (ms0_18 t) fullShare d)
    ∗ (∃ d, owns (c : Thread nD τ) (ms0_19 t) fullShare d)
    ∗ (∃ d, owns (c : Thread nD τ) (ms0_20 t) fullShare d)
    ∗ (∃ d, owns (c : Thread nD τ) (ms0_21 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ (∃ d, owns (c : Thread nD τ) (ms0_17 t) fullShare d)
    ∗ (∃ d, owns (c : Thread nD τ) (ms0_18 t) fullShare d)
    ∗ (∃ d, owns (c : Thread nD τ) (ms0_19 t) fullShare d)
    ∗ (∃ d, owns (c : Thread nD τ) (ms0_20 t) fullShare d)
    ∗ (∃ d, owns (c : Thread nD τ) (ms0_21 t) fullShare d))

set_option maxHeartbeats 2400000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16]
  rw [show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  isplitl [H18]; · iexists _; iexact H18
  isplitl [H19]; · iexists _; iexact H19
  isplitl [H20]; · iexists _; iexact H20
  isplitl [H21]; · iexists _; iexact H21
  isplitl [HS0]; · iexact HS0
  isplitl [HS1]; · iexact HS1
  iintro ⟨H0, H1, H2, H3, H4, H5, H6, H7, H8, H9, H10, H11, H12, H13, H14, H15, H16, H17, H18, H19, H20, H21, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexact H21

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 17, 18, 19, 20, 21) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.Kernel.Body

end
-- ==== Proof.Ideal.Runs.lean ====
/- The staging memrefs and scratch buffers of the merger kernel (any float operations), named at each grid point, over the
   generated frame kit (Gen/KernelIdeal/Frame.lean). -/
module

public import proofs.«01_k».proof.Proof.Gen.KernelIdeal.Frame
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The kernel body on any staging memrefs: a subtype the run finds -/

/-- One staging buffer of output window 17, through which its contents are stated (`View.read_writes_of_cover`: the
    choice does not matter). -/
abbrev VO0_17 : View sig .tc .vmem S256x5120 .fp8e4m3 := (Memref.whole cc0_stg17_0 : Memref sig .tc .vmem S256x5120 .fp8e4m3).view
/-- One staging buffer of output window 18, through which its contents are stated (`View.read_writes_of_cover`: the
    choice does not matter). -/
abbrev VO0_18 : View sig .tc .vmem S1x1x256 .f32 := (Memref.whole cc0_stg18_0 : Memref sig .tc .vmem S1x1x256 .f32).view
/-- One staging buffer of output window 19, through which its contents are stated (`View.read_writes_of_cover`: the
    choice does not matter). -/
abbrev VO0_19 : View sig .tc .vmem S256x5120 .fp8e4m3 := (Memref.whole cc0_stg19_0 : Memref sig .tc .vmem S256x5120 .fp8e4m3).view
/-- One staging buffer of output window 20, through which its contents are stated (`View.read_writes_of_cover`: the
    choice does not matter). -/
abbrev VO0_20 : View sig .tc .vmem S1x1x256 .f32 := (Memref.whole cc0_stg20_0 : Memref sig .tc .vmem S1x1x256 .f32).view
/-- One staging buffer of output window 21, through which its contents are stated (`View.read_writes_of_cover`: the
    choice does not matter). -/
abbrev VO0_21 : View sig .tc .vmem S4096x128 .f32 := (Memref.whole cc0_stg21_0 : Memref sig .tc .vmem S4096x128 .f32).view
/-- Each window's current staging memref at point `t`, spelled as the pipeline passes it (`bodyAt0`), and its wholeness. -/
abbrev ms0_0 (t : Fin cfg0.N) : Memref sig .tc .vmem S1024x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x128 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x128 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x128 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x128 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1024x128 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1280 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S5120x5120 .fp8e4m3 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x5120 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x5120 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S5120x2048 .fp8e4m3 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x2048 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x2048 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S256x5120 .fp8e4m3 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S1x1x256 .f32 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S256x5120 .fp8e4m3 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S1x1x256 .f32 := win0_20.stage (cfg0.slots t 20)
abbrev hs0_20 (t : Fin cfg0.N) : (ms0_20 t).IsWhole := hstage0_20 ((cfg0.slots t 20).cast nbuf0_20)
abbrev ms0_21 (t : Fin cfg0.N) : Memref sig .tc .vmem S4096x128 .f32 := win0_21.stage (cfg0.slots t 21)
abbrev hs0_21 (t : Fin cfg0.N) : (ms0_21 t).IsWhole := hstage0_21 ((cfg0.slots t 21).cast nbuf0_21)
/-- The scratch operands: whole scoped buffers of the kernel's own, passed beside the windows. -/
abbrev scM0_0 : Memref sig .tc .vmem S256x5120 .f32 := Memref.whole cc0_scratch0
abbrev scM0_1 : Memref sig .tc .vmem S256x5120 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Body

end
-- ==== Proof.Ideal.Run.lean ====
/- The whole-body run of the merger kernel (any float operations): the body triple by `sl_exec` over the skeleton. Window 21 is
   stored through sixteen row-strided rectangles. -/
module

public import proofs.«01_k».proof.Proof.Ideal.Runs

@[expose] public section

-- membership in a rectangle of production extents (`View.cover_of_tiled`): the elaborator's structural look
-- recurses once per coordinate of the long axes
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 2516000 in
/-- What the body's stores leave in each output's staging memref, as pieces (last first), WITH the
    proof that on whole staging memrefs — the inputs' at their contents, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .vmem S1024x128 .bf16) (harg1 : arg1.IsWhole) (arg2 : Memref sig .tc .vmem S1024x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S1024x128 .bf16) (harg9 : arg9.IsWhole) (arg10 : Memref sig .tc .vmem S1024x128 .bf16) (harg10 : arg10.IsWhole) (arg11 : Memref sig .tc .vmem S1x1280 .f32) (harg11 : arg11.IsWhole) (arg12 : Memref sig .tc .vmem S5120x5120 .fp8e4m3) (harg12 : arg12.IsWhole) (arg13 : Memref sig .tc .vmem S1x5120 .f32) (harg13 : arg13.IsWhole) (arg14 : Memref sig .tc .vmem S1x5120 .f32) (harg14 : arg14.IsWhole) (arg15 : Memref sig .tc .vmem S5120x2048 .fp8e4m3) (harg15 : arg15.IsWhole) (arg16 : Memref sig .tc .vmem S1x2048 .f32) (harg16 : arg16.IsWhole) (arg17 : Memref sig .tc .vmem S1x2048 .f32) (harg17 : arg17.IsWhole) (arg18 : Memref sig .tc .vmem S256x5120 .fp8e4m3) (harg18 : arg18.IsWhole) (arg19 : Memref sig .tc .vmem S1x1x256 .f32) (harg19 : arg19.IsWhole) (arg20 : Memref sig .tc .vmem S256x5120 .fp8e4m3) (harg20 : arg20.IsWhole) (arg21 : Memref sig .tc .vmem S1x1x256 .f32) (harg21 : arg21.IsWhole) (arg22 : Memref sig .tc .vmem S4096x128 .f32) (harg22 : arg22.IsWhole) (arg23 : Memref sig .tc .vmem S256x5120 .f32) (harg23 : arg23.IsWhole) (arg24 : Memref sig .tc .vmem S256x5120 .f32) (harg24 : arg24.IsWhole)
    (x0 : Vec F S1024x128 .bf16) (x1 : Vec F S1024x128 .bf16) (x2 : Vec F S1024x128 .bf16) (x3 : Vec F S1024x128 .bf16) (x4 : Vec F S1024x128 .bf16) (x5 : Vec F S1024x128 .bf16) (x6 : Vec F S1024x128 .bf16) (x7 : Vec F S1024x128 .bf16) (x8 : Vec F S1024x128 .bf16) (x9 : Vec F S1024x128 .bf16) (x10 : Vec F S1x1280 .f32) (x11 : Vec F S5120x5120 .fp8e4m3) (x12 : Vec F S1x5120 .f32) (x13 : Vec F S1x5120 .f32) (x14 : Vec F S5120x2048 .fp8e4m3) (x15 : Vec F S1x2048 .f32) (x16 : Vec F S1x2048 .f32) :
    Σ' (L17 : List (View.Piece (Elt F) S256x5120 .fp8e4m3)), Σ' (L18 : List (View.Piece (Elt F) S1x1x256 .f32)), Σ' (L19 : List (View.Piece (Elt F) S256x5120 .fp8e4m3)), Σ' (L20 : List (View.Piece (Elt F) S1x1x256 .f32)), Σ' (L21 : List (View.Piece (Elt F) S4096x128 .f32)), Σ' (LT0 : List (View.Piece (Elt F) S256x5120 .f32)), { LT1 : List (View.Piece (Elt F) S256x5120 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21) ∗ (∃ f, arg23.view.loc (c : Thread nD τ) ↦[arg23.view.set]{fullShare} arg23.view.writes (Elt F) f LT0) ∗ (∃ f, arg24.view.loc (c : Thread nD τ) ↦[arg24.view.set]{fullShare} arg24.view.writes (Elt F) f LT1)) -∗ K ⟨⟩))
          ⊢ wp frame (wpE (defs₀ (F := F)) Variants.none c none) E (cc0_merger i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K } := by
  refine ⟨?_, ?_, ?_, ?_, ?_, ?_, ?_, fun E K => ?run⟩
  case run =>
    simp only [cc0_merger_eq_skeleton]; unfold cc0_merger_skel
    simp only [k0_part42_eq_skeleton, k0_part43_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, ⟨%d19, %f19, -, H19⟩, ⟨%d20, %f20, -, H20⟩, ⟨%d21, %f21, -, H21⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]; · iexists _; iexact H17
    isplitl [H18]; · iexists _; iexact H18
    isplitl [H19]; · iexists _; iexact H19
    isplitl [H20]; · iexists _; iexact H20
    isplitl [H21]; · iexists _; iexact H21
    isplitl [HS0]; · iexists _; iexact HS0
    iexists _; iexact HS1

end Cert.KernelIdeal.Body

end
-- ==== Proof.Ideal.Tiles.lean ====
/- The merger kernel's body as mathematics on tiles (any float operations): what each store of the body writes, as a function
   of the vectors the body loads. No memory appears here. -/
module

public import proofs.«01_k».proof.Proof.Gen.KernelIdeal.Skeleton
public import Idealize.ShloMosaic.Lib.Pipeline.FrameBody

@[expose] public section

set_option maxRecDepth 16384

noncomputable section

namespace Cert.KernelIdeal.Tiles

open Cert.KernelIdeal Cert.KernelIdeal.Gen
open Idealize.ShloMosaic Idealize.ShloMosaic.TcCoe

variable {F : FTy → Type} [FloatOps F]

/-! ## The rectangles the body stores through -/

theorem lane_inb (j : ℕ) : ∀ a, (![0, 128 * (j % 40)] : Fin 2 → ℕ) a + S256x128.size a ≤ S256x5120.size a := by
  have := Nat.mod_lt j (show 0 < 40 by decide)
  intro a
  match a with
  | 0 => show 0 + 256 ≤ 256; decide
  | 1 => show 128 * (j % 40) + 128 ≤ 5120; omega

/-- Lane tile `j` of a 256 x 5120 block. -/
@[reducible] def laneRect (j : ℕ) : Rect S256x5120 := Rect.unit ![0, 128 * (j % 40)] S256x128.size (lane_inb j)

theorem col_inb (n : ℕ) : ∀ a, (![0, 512 * (n % 10)] : Fin 2 → ℕ) a + S256x512.size a ≤ S256x5120.size a := by
  have := Nat.mod_lt n (show 0 < 10 by decide)
  intro a
  match a with
  | 0 => show 0 + 256 ≤ 256; decide
  | 1 => show 512 * (n % 10) + 512 ≤ 5120; omega

/-- Column group `n` (512 columns) of a 256 x 5120 block. -/
@[reducible] def colRect (n : ℕ) : Rect S256x5120 := Rect.unit ![0, 512 * (n % 10)] S256x512.size (col_inb n)

theorem row_inb (j : ℕ) : ∀ a, S256x128.size a = 0 ∨
    (![j % 16, 0] : Fin 2 → ℕ) a + (![16, 1] : Fin 2 → ℕ) a * (S256x128.size a - 1) < S4096x128.size a := by
  have := Nat.mod_lt j (show 0 < 16 by decide)
  intro a
  match a with
  | 0 => right; show j % 16 + 16 * (256 - 1) < 4096; omega
  | 1 => right; show 0 + 1 * (128 - 1) < 128; decide

/-- Every sixteenth row of a 4096 x 128 block, from row `j` on. -/
@[reducible] def rowRect (j : ℕ) : Rect S4096x128 :=
  { off := ![j % 16, 0], size := S256x128.size, stride := ![16, 1], inb := row_inb j, stride_pos := spos_16_1 }

/-- The pieces `0 … n - 1` of a run that stores `f j` through the rectangle `r j`, the last stored first. -/
def upto {Val : EltTy → Type} {s : Shape} {e : EltTy} (r : ℕ → Rect s) (f : (j : ℕ) → (r j).shape.Idx → Val e) :
    ℕ → List (View.Piece Val s e)
  | 0 => []
  | n + 1 => ⟨r n, f n⟩ :: upto r f n

/-! ## The vectors the body loads -/

/-- What the body reads of its input blocks: of lane tile `c` of the activations the row pairs of parity `q`, and of each
    parameter the pieces it slices off. -/
structure Loads (F : FTy → Type) where
  raw : ℕ → ℕ → Vec F S256x2x128 .bf16
  gain : ℕ → Vec F S1x128 .f32
  w1 : ℕ → Vec F S5120x512 .fp8e4m3
  s1 : ℕ → Vec F S1x512 .f32
  b1 : ℕ → Vec F S1x512 .f32
  w2 : ℕ → Vec F S5120x512 .fp8e4m3
  s2 : ℕ → Vec F S1x512 .f32
  b2 : ℕ → Vec F S1x512 .f32

variable (L : Loads F)

/-! ## The normalised rows -/

/-- The lower (`p` even) or upper (`p` odd) rows of the loaded row pairs, as floats of 32 bits. -/
def wide (p : ℕ) (v : Vec F S256x2x128 .bf16) : FVec F S256x128 .f32 :=
  extf .f32 (shapeCast S256x128 (rowsOfParity ⟨p % 2, Nat.mod_lt p (by decide)⟩ S256x1x128 v bitcasts_S256x2x128_w16_S256x1x128_w32)
    shapeCasts_S256x1x128_S256x128 : FVec F S256x128 .bf16)

/-- Lane tile `c` of the activations' rows congruent to `p` modulo four. -/
def xT (p c : ℕ) : FVec F S256x128 .f32 := wide p (L.raw (p / 2) c)

/-- The running sum of the squared lane tiles. -/
def sqT (p : ℕ) : ℕ → FVec F S256x128 .f32
  | 0 => mulf (xT L p 0) (xT L p 0)
  | n + 1 => addf (sqT p n) (mulf (xT L p (n + 1)) (xT L p (n + 1)))

/-- The reciprocal root of the mean square of each row. -/
def inv (p : ℕ) : FVec F S256x1 .f32 :=
  rsqrt (addf (divf (shapeCast S256x1 (multiReduction .add [1] S256 (sqT L p 9) 0x00000000#32 reduces_S256x128_S256 (.inl rfl) rfl)
      shapeCasts_S256_S256x1) (broadcast S256x1 (Scalar.ofBits .f32 0x44A00000#32)))
    (broadcast S256x1 (Scalar.ofBits .f32 0x358637BD#32)))

/-- Lane tile `j` of the normalised, gain-scaled rows. -/
def rT (j : ℕ) : FVec F S256x128 .f32 :=
  mulf (mulf (xT L (j / 10) (j % 10)) (broadcastTo S256x128 (inv L (j / 10)) broadcasts_S256x1_S256x128))
    (broadcastTo S256x128 (shapeCast S1x128 (L.gain (j % 10)) shapeCasts_S1x128_S1x128 : FVec F S1x128 .f32) broadcasts_S1x128_S256x128)

/-! ## Row maxima, scales and quantised tiles -/

/-- The running maximum of the tiles' absolute values. -/
def maxT (t : ℕ → FVec F S256x128 .f32) : ℕ → FVec F S256x128 .f32
  | 0 => t 0
  | n + 1 => maximumf (maxT t n) (t (n + 1))

/-- The row maxima of a tile, as a column. -/
def rowMax (a : FVec F S256x128 .f32) : FVec F S256x1 .f32 :=
  shapeCast S256x1 (multiReduction .maximumf [1] S256 a 0xFF800000#32 reduces_S256x128_S256 (.inl rfl) rfl) shapeCasts_S256_S256x1

/-- The quantisation scale of each row: the row maximum over 448, or one for a row without a positive maximum. -/
def scaleOf (a : FVec F S256x1 .f32) : FVec F S256x1 .f32 :=
  select (cmpf .ogt a (broadcast S256x1 (Scalar.ofBits .f32 0x00000000#32)))
    (divf a (broadcast S256x1 (Scalar.ofBits .f32 0x43E00000#32))) (broadcast S256x1 (Scalar.ofBits .f32 0x3F800000#32))

/-- The scale column laid out along the lanes of a 1 x 1 x 256 block. -/
def scaleRow (s : FVec F S256x1 .f32) : FVec F S1x1x256 .f32 :=
  shapeCast S1x1x256 (extractStridedSlice S1x256 ![0, 0] (transpose S128x256 [1, 0]
    (broadcastTo S256x128 (shapeCast S256x1 s shapeCasts_S256x1_S256x1 : FVec F S256x1 .f32) broadcasts_S256x1_S256x128)
    transposes_S256x128_p1_0_S128x256 : FVec F S128x256 .f32) slices_S128x256_o0_0_S1x256 : FVec F S1x256 .f32) shapeCasts_S1x256_S1x1x256

/-- A 128-lane tile divided by the row scales, clipped and narrowed to eight bits. -/
def quant128 (s : FVec F S256x1 .f32) (v : FVec F S256x128 .f32) : FVec F S256x128 .fp8e4m3 :=
  truncf .fp8e4m3 (minimumf (broadcast S256x128 (Scalar.ofBits .f32 0x43E00000#32))
    (maximumf (broadcast S256x128 (Scalar.ofBits .f32 0xC3E00000#32)) (divf v (broadcastTo S256x128 s broadcasts_S256x1_S256x128))))
    bitsLt_fp8e4m3_f32

/-- A 512-column group divided by the row scales, clipped and narrowed to eight bits. -/
def quant512 (s : FVec F S256x1 .f32) (v : FVec F S256x512 .f32) : FVec F S256x512 .fp8e4m3 :=
  truncf .fp8e4m3 (minimumf (broadcast S256x512 (Scalar.ofBits .f32 0x43E00000#32))
    (maximumf (broadcast S256x512 (Scalar.ofBits .f32 0xC3E00000#32)) (divf v (broadcastTo S256x512 s broadcasts_S256x1_S256x512))))
    bitsLt_fp8e4m3_f32

theorem slices_lane (c : ℕ) : S256x512.Slices ![0, 128 * (c % 4)] S256x128 := by
  have := Nat.mod_lt c (show 0 < 4 by decide)
  refine ⟨rfl, fun a => ?_⟩
  match a with
  | 0 => show 0 + 256 ≤ 256; decide
  | 1 => show 128 * (c % 4) + 128 ≤ 512; omega

/-- Lane tile `c` of a 512-column group. -/
def lane4 (c : ℕ) (v : FVec F S256x512 .f32) : FVec F S256x128 .f32 :=
  extractStridedSlice S256x128 ![0, 128 * (c % 4)] v (slices_lane c)

/-! ## The two matrix products -/

/-- Codes times weights, scaled by row and by column and shifted by the bias: one 512-column group. -/
def affine (s : FVec F S256x1 .f32) (q : Vec F S256x5120 .fp8e4m3) (w : Vec F S5120x512 .fp8e4m3) (sc b : Vec F S1x512 .f32) :
    FVec F S256x512 .f32 :=
  addf (mulf (mulf (matmul dot_S256x5120_S5120x512_S256x512_1_0_0_1_n_n none
      (shapeCast S256x5120 q shapeCasts_S256x5120_S256x5120 : FVec F S256x5120 .fp8e4m3) w (constant S256x512 .f32 0x00000000#32))
      (broadcastTo S256x512 s broadcasts_S256x1_S256x512))
      (broadcastTo S256x512 (shapeCast S1x512 sc shapeCasts_S1x512_S1x512 : FVec F S1x512 .f32) broadcasts_S1x512_S256x512))
    (broadcastTo S256x512 (shapeCast S1x512 b shapeCasts_S1x512_S1x512 : FVec F S1x512 .f32) broadcasts_S1x512_S256x512)

/-- The exact GELU of a 512-column group. -/
def gelu (z : FVec F S256x512 .f32) : FVec F S256x512 .f32 :=
  mulf (mulf (broadcast S256x512 (Scalar.ofBits .f32 0x3F000000#32)) z)
    (addf (broadcast S256x512 (Scalar.ofBits .f32 0x3F800000#32))
      (erf (mulf z (broadcast S256x512 (Scalar.ofBits .f32 0x3F3504F3#32)))))

/-! ## The stages of the body

Each stage reads the earlier ones back through the scratch it stored them in: `f` is what the read of tile `j` returns, `q` what
the read of a whole block of codes returns. -/

/-- The scale column of the normalised rows. -/
def mScale : FVec F S256x1 .f32 := scaleOf (rowMax (maxT (fun j => absf (rT L j)) 39))

/-- Column group `n` of the GELU of the first product, of the codes `q`. -/
def gT (q : Vec F S256x5120 .fp8e4m3) (n : ℕ) : FVec F S256x512 .f32 :=
  gelu (affine (mScale L) q (L.w1 n) (L.s1 n) (L.b1 n))

/-- The scale column of the GELU's rows. -/
def gScale (q : Vec F S256x5120 .fp8e4m3) : FVec F S256x1 .f32 :=
  scaleOf (rowMax (maxT (fun j => lane4 (j % 4) (absf (gT L q (j / 4)))) 39))

/-- Lane tile `j` of the second product, of the codes `q` with the scales `s`. -/
def mgT (s : FVec F S256x1 .f32) (q : Vec F S256x5120 .fp8e4m3) (j : ℕ) : FVec F S256x128 .f32 :=
  lane4 (j % 4) (affine s q (L.w2 (j / 4)) (L.s2 (j / 4)) (L.b2 (j / 4)))

end Cert.KernelIdeal.Tiles
-- ==== Proof.Ideal.Pieces.lean ====
/- The stores of the merger kernel's run, as the tiles of Tiles.lean (any float operations): each list of pieces the run leaves is
   the list of the stage's tiles, in order. Both sides are the same term once unfolded, which is left to the kernel to check. -/
module

public import proofs.«01_k».proof.Proof.Ideal.Run
public import proofs.«01_k».proof.Proof.Ideal.Tiles

@[expose] public section

set_option maxRecDepth 16384

noncomputable section

namespace Cert.KernelIdeal.Body

open Cert.KernelIdeal Cert.KernelIdeal.Gen Cert.KernelIdeal.Tiles
open Idealize.ShloMosaic Idealize.ShloMosaic.TcCoe Idealize.ShloMosaic.Tactic

variable {F : FTy → Type} [FloatOps F]

/-! ## What the body loads -/

theorem pair_inb (q : ℕ) : ∀ a, S256x2x128.size a = 0 ∨
    (![q % 2, 0, 0] : Fin 3 → ℕ) a + (![2, 1, 1] : Fin 3 → ℕ) a * (S256x2x128.size a - 1) < S512x2x128.size a := by
  have := Nat.mod_lt q (show 0 < 2 by decide)
  intro a
  match a with
  | 0 => right; show q % 2 + 2 * (256 - 1) < 512; omega
  | 1 => right; show 0 + 1 * (2 - 1) < 2; decide
  | 2 => right; show 0 + 1 * (128 - 1) < 128; decide

/-- Every other pair of rows of a 512 x 2 x 128 block, from pair `q` on. -/
@[reducible] def pairRect (q : ℕ) : LoadRect S512x2x128 :=
  { off := ![q % 2, 0, 0], size := S256x2x128.size, stride := ![2, 1, 1], inb := pair_inb q }

/-- The row pairs of parity `q` of a 1024 x 128 block held at `x`. -/
def rawLoad (q : ℕ) (arg : Memref sig .tc .vmem S1024x128 .bf16) (harg : arg.IsWhole) (x : Vec F S1024x128 .bf16) :
    Vec F S256x2x128 .bf16 :=
  View.readAt (Elt F) (arg.reshape S512x2x128 reshapes_S1024x128_S512x2x128.1 reshapes_S1024x128_S512x2x128.2 harg.contiguous).view
    (pairRect q) (harg.unread x)

theorem gain_inb (c : ℕ) : ∀ a, (![0, 128 * (c % 10)] : Fin 2 → ℕ) a + S1x128.size a ≤ S1x1280.size a := by
  have := Nat.mod_lt c (show 0 < 10 by decide)
  intro a
  match a with
  | 0 => show 0 + 1 ≤ 1; decide
  | 1 => show 128 * (c % 10) + 128 ≤ 1280; omega

theorem w1_inb (n : ℕ) : ∀ a, (![0, 512 * (n % 10)] : Fin 2 → ℕ) a + S5120x512.size a ≤ S5120x5120.size a := by
  have := Nat.mod_lt n (show 0 < 10 by decide)
  intro a
  match a with
  | 0 => show 0 + 5120 ≤ 5120; decide
  | 1 => show 512 * (n % 10) + 512 ≤ 5120; omega

theorem s1_inb (n : ℕ) : ∀ a, (![0, 512 * (n % 10)] : Fin 2 → ℕ) a + S1x512.size a ≤ S1x5120.size a := by
  have := Nat.mod_lt n (show 0 < 10 by decide)
  intro a
  match a with
  | 0 => show 0 + 1 ≤ 1; decide
  | 1 => show 512 * (n % 10) + 512 ≤ 5120; omega

theorem w2_inb (n : ℕ) : ∀ a, (![0, 512 * (n % 4)] : Fin 2 → ℕ) a + S5120x512.size a ≤ S5120x2048.size a := by
  have := Nat.mod_lt n (show 0 < 4 by decide)
  intro a
  match a with
  | 0 => show 0 + 5120 ≤ 5120; decide
  | 1 => show 512 * (n % 4) + 512 ≤ 2048; omega

theorem s2_inb (n : ℕ) : ∀ a, (![0, 512 * (n % 4)] : Fin 2 → ℕ) a + S1x512.size a ≤ S1x2048.size a := by
  have := Nat.mod_lt n (show 0 < 4 by decide)
  intro a
  match a with
  | 0 => show 0 + 1 ≤ 1; decide
  | 1 => show 512 * (n % 4) + 512 ≤ 2048; omega

@[reducible] def gainRect (c : ℕ) : Rect S1x1280 := Rect.unit ![0, 128 * (c % 10)] S1x128.size (gain_inb c)
@[reducible] def w1Rect (n : ℕ) : Rect S5120x5120 := Rect.unit ![0, 512 * (n % 10)] S5120x512.size (w1_inb n)
@[reducible] def s1Rect (n : ℕ) : Rect S1x5120 := Rect.unit ![0, 512 * (n % 10)] S1x512.size (s1_inb n)
@[reducible] def w2Rect (n : ℕ) : Rect S5120x2048 := Rect.unit ![0, 512 * (n % 4)] S5120x512.size (w2_inb n)
@[reducible] def s2Rect (n : ℕ) : Rect S1x2048 := Rect.unit ![0, 512 * (n % 4)] S1x512.size (s2_inb n)

/-- The body's loads, at staging buffers holding the input blocks. -/
def loads (arg1 : Memref sig .tc .vmem S1024x128 .bf16) (harg1 : arg1.IsWhole) (arg2 : Memref sig .tc .vmem S1024x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S1024x128 .bf16) (harg9 : arg9.IsWhole) (arg10 : Memref sig .tc .vmem S1024x128 .bf16) (harg10 : arg10.IsWhole) (arg11 : Memref sig .tc .vmem S1x1280 .f32) (harg11 : arg11.IsWhole) (arg12 : Memref sig .tc .vmem S5120x5120 .fp8e4m3) (harg12 : arg12.IsWhole) (arg13 : Memref sig .tc .vmem S1x5120 .f32) (harg13 : arg13.IsWhole) (arg14 : Memref sig .tc .vmem S1x5120 .f32) (harg14 : arg14.IsWhole) (arg15 : Memref sig .tc .vmem S5120x2048 .fp8e4m3) (harg15 : arg15.IsWhole) (arg16 : Memref sig .tc .vmem S1x2048 .f32) (harg16 : arg16.IsWhole) (arg17 : Memref sig .tc .vmem S1x2048 .f32) (harg17 : arg17.IsWhole) (x0 : Vec F S1024x128 .bf16) (x1 : Vec F S1024x128 .bf16) (x2 : Vec F S1024x128 .bf16) (x3 : Vec F S1024x128 .bf16) (x4 : Vec F S1024x128 .bf16) (x5 : Vec F S1024x128 .bf16) (x6 : Vec F S1024x128 .bf16) (x7 : Vec F S1024x128 .bf16) (x8 : Vec F S1024x128 .bf16) (x9 : Vec F S1024x128 .bf16) (x10 : Vec F S1x1280 .f32) (x11 : Vec F S5120x5120 .fp8e4m3) (x12 : Vec F S1x5120 .f32) (x13 : Vec F S1x5120 .f32) (x14 : Vec F S5120x2048 .fp8e4m3) (x15 : Vec F S1x2048 .f32) (x16 : Vec F S1x2048 .f32) : Loads F where
  raw q c := match c with
    | 0 => rawLoad q arg1 harg1 x0
    | 1 => rawLoad q arg2 harg2 x1
    | 2 => rawLoad q arg3 harg3 x2
    | 3 => rawLoad q arg4 harg4 x3
    | 4 => rawLoad q arg5 harg5 x4
    | 5 => rawLoad q arg6 harg6 x5
    | 6 => rawLoad q arg7 harg7 x6
    | 7 => rawLoad q arg8 harg8 x7
    | 8 => rawLoad q arg9 harg9 x8
    | _ => rawLoad q arg10 harg10 x9
  gain c := View.readAt (Elt F) arg11.view (gainRect c).toLoadRect (harg11.unread x10)
  w1 n := View.readAt (Elt F) arg12.view (w1Rect n).toLoadRect (harg12.unread x11)
  s1 n := View.readAt (Elt F) arg13.view (s1Rect n).toLoadRect (harg13.unread x12)
  b1 n := View.readAt (Elt F) arg14.view (s1Rect n).toLoadRect (harg14.unread x13)
  w2 n := View.readAt (Elt F) arg15.view (w2Rect n).toLoadRect (harg15.unread x14)
  s2 n := View.readAt (Elt F) arg16.view (s2Rect n).toLoadRect (harg16.unread x15)
  b2 n := View.readAt (Elt F) arg17.view (s2Rect n).toLoadRect (harg17.unread x16)

/-! ## The stages' pieces, reads through the scratch left as the run has them -/

/-- The stores of the normalised rows. -/
def rPieces (L : Loads F) : List (View.Piece (Elt F) S256x5120 .f32) :=
  upto laneRect (fun j => shapeCast S256x128 (rT L j) shapeCasts_S256x128_S256x128) 40

/-- The stores of the first codes, `rd` the reads of the normalised rows. -/
def mPieces (L : Loads F) (rd : ℕ → Vec F S256x128 .f32) : List (View.Piece (Elt F) S256x5120 .fp8e4m3) :=
  upto laneRect (fun j => quant128 (mScale L) (rd j)) 40

/-- The stores of the GELU, `q` the read of the first codes. -/
def gPieces (L : Loads F) (q : Vec F S256x5120 .fp8e4m3) : List (View.Piece (Elt F) S256x5120 .f32) :=
  upto colRect (fun n => shapeCast S256x512 (gT L q n) shapeCasts_S256x512_S256x512) 10

/-- The stores of the second codes, `rd` the reads of the GELU. -/
def gcPieces (L : Loads F) (q : Vec F S256x5120 .fp8e4m3) (rd : ℕ → Vec F S256x512 .f32) :
    List (View.Piece (Elt F) S256x5120 .fp8e4m3) :=
  upto colRect (fun n => quant512 (gScale L q) (rd n)) 10

/-- The row-strided stores of the second product, `qq` the read of the second codes. -/
def mgPieces (L : Loads F) (q qq : Vec F S256x5120 .fp8e4m3) : List (View.Piece (Elt F) S4096x128 .f32) :=
  upto rowRect (fun j => mgT L (gScale L q) qq j) 16

theorem whole_inb : ∀ a, (![0, 0] : Fin 2 → ℕ) a + S256x5120.size a ≤ S256x5120.size a := by decide

/-- The whole of a 256 x 5120 block, as the body loads it. -/
@[reducible] def wholeRect : Rect S256x5120 := Rect.unit ![0, 0] S256x5120.size whole_inb

/-- The first codes as the body reads them back. -/
def mRead (L : Loads F) (arg18 : Memref sig .tc .vmem S256x5120 .fp8e4m3) (arg23 : Memref sig .tc .vmem S256x5120 .f32) :
    Vec F S256x5120 .fp8e4m3 :=
  arg18.view.readCov (mPieces L fun j => arg23.view.readCov (rPieces L) (laneRect j).toLoadRect) wholeRect.toLoadRect

/-- The second codes as the body reads them back. -/
def gcRead (L : Loads F) (q : Vec F S256x5120 .fp8e4m3) (arg20 : Memref sig .tc .vmem S256x5120 .fp8e4m3)
    (arg24 : Memref sig .tc .vmem S256x5120 .f32) : Vec F S256x5120 .fp8e4m3 :=
  arg20.view.readCov (gcPieces L q fun n => arg24.view.readCov (gPieces L q) (colRect n).toLoadRect) wholeRect.toLoadRect

variable (c : Dev nD) (i : grid0.Coords) (arg1 : Memref sig .tc .vmem S1024x128 .bf16) (harg1 : arg1.IsWhole) (arg2 : Memref sig .tc .vmem S1024x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S1024x128 .bf16) (harg9 : arg9.IsWhole) (arg10 : Memref sig .tc .vmem S1024x128 .bf16) (harg10 : arg10.IsWhole) (arg11 : Memref sig .tc .vmem S1x1280 .f32) (harg11 : arg11.IsWhole) (arg12 : Memref sig .tc .vmem S5120x5120 .fp8e4m3) (harg12 : arg12.IsWhole) (arg13 : Memref sig .tc .vmem S1x5120 .f32) (harg13 : arg13.IsWhole) (arg14 : Memref sig .tc .vmem S1x5120 .f32) (harg14 : arg14.IsWhole) (arg15 : Memref sig .tc .vmem S5120x2048 .fp8e4m3) (harg15 : arg15.IsWhole) (arg16 : Memref sig .tc .vmem S1x2048 .f32) (harg16 : arg16.IsWhole) (arg17 : Memref sig .tc .vmem S1x2048 .f32) (harg17 : arg17.IsWhole) (arg18 : Memref sig .tc .vmem S256x5120 .fp8e4m3) (harg18 : arg18.IsWhole) (arg19 : Memref sig .tc .vmem S1x1x256 .f32) (harg19 : arg19.IsWhole) (arg20 : Memref sig .tc .vmem S256x5120 .fp8e4m3) (harg20 : arg20.IsWhole) (arg21 : Memref sig .tc .vmem S1x1x256 .f32) (harg21 : arg21.IsWhole) (arg22 : Memref sig .tc .vmem S4096x128 .f32) (harg22 : arg22.IsWhole) (arg23 : Memref sig .tc .vmem S256x5120 .f32) (harg23 : arg23.IsWhole) (arg24 : Memref sig .tc .vmem S256x5120 .f32) (harg24 : arg24.IsWhole)
    (x0 : Vec F S1024x128 .bf16) (x1 : Vec F S1024x128 .bf16) (x2 : Vec F S1024x128 .bf16) (x3 : Vec F S1024x128 .bf16) (x4 : Vec F S1024x128 .bf16) (x5 : Vec F S1024x128 .bf16) (x6 : Vec F S1024x128 .bf16) (x7 : Vec F S1024x128 .bf16) (x8 : Vec F S1024x128 .bf16) (x9 : Vec F S1024x128 .bf16) (x10 : Vec F S1x1280 .f32) (x11 : Vec F S5120x5120 .fp8e4m3) (x12 : Vec F S1x5120 .f32) (x13 : Vec F S1x5120 .f32) (x14 : Vec F S5120x2048 .fp8e4m3) (x15 : Vec F S1x2048 .f32) (x16 : Vec F S1x2048 .f32)

theorem run_r : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16).2.2.2.2.2.1 = rPieces (loads arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 x14 x15 x16) := by sl_kernel_rfl

theorem run_m : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16).1 =
    mPieces (loads arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 x14 x15 x16) (fun j => arg23.view.readCov (rPieces (loads arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 x14 x15 x16)) (laneRect j).toLoadRect) := by sl_kernel_rfl

theorem run_ms : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16).2.1 =
    [⟨Rect.unit ![0, 0, 0] S1x1x256.size inb_S1x1x256_S1x1x256_0_0_0, scaleRow (mScale (loads arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 x14 x15 x16))⟩] := by sl_kernel_rfl

theorem run_g : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16).2.2.2.2.2.2.1 =
    gPieces (loads arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 x14 x15 x16) (mRead (loads arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 x14 x15 x16) arg18 arg23) := by sl_kernel_rfl

theorem run_gs : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16).2.2.2.1 =
    [⟨Rect.unit ![0, 0, 0] S1x1x256.size inb_S1x1x256_S1x1x256_0_0_0, scaleRow (gScale (loads arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 x14 x15 x16) (mRead (loads arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 x14 x15 x16) arg18 arg23))⟩] := by sl_kernel_rfl

theorem run_gc : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16).2.2.1 =
    gcPieces (loads arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 x14 x15 x16) (mRead (loads arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 x14 x15 x16) arg18 arg23)
      (fun n => arg24.view.readCov (gPieces (loads arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 x14 x15 x16) (mRead (loads arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 x14 x15 x16) arg18 arg23)) (colRect n).toLoadRect) := by sl_kernel_rfl

theorem run_mg : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16).2.2.2.2.1 =
    mgPieces (loads arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 x14 x15 x16) (mRead (loads arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 x14 x15 x16) arg18 arg23) (gcRead (loads arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 x14 x15 x16) (mRead (loads arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 x14 x15 x16) arg18 arg23) arg20 arg24) := by sl_kernel_rfl

end Cert.KernelIdeal.Body
-- ==== Proof.Ideal.Reads.lean ====
/- What the merger kernel's body reads back through the buffers it stored into, and what its stores leave in its results: the
   tiles of Tiles.lean, glued together (any float operations). -/
module

public import proofs.«01_k».proof.Proof.Ideal.Pieces
public import Idealize.ShloMosaic.Lib.Pipeline.Value
public import Idealize.ShloMosaic.Lib.WholeRead
public import Idealize.ShloMosaic.Lib.Pointwise

@[expose] public section

set_option maxRecDepth 16384

noncomputable section

namespace Cert.KernelIdeal.Tiles

open Cert.KernelIdeal Cert.KernelIdeal.Gen
open Idealize.ShloMosaic Idealize.ShloMosaic.TcCoe

section General

variable {Val : EltTy → Type} {s : Shape} {e : EltTy} {r : ℕ → Rect s}

/-- The pieces of `upto` are the stores below `n`. -/
theorem mem_upto {f : (j : ℕ) → (r j).shape.Idx → Val e} {n : ℕ} {p : View.Piece Val s e} :
    p ∈ upto r f n ↔ ∃ j < n, p = ⟨r j, f j⟩ := by
  induction n with
  | zero => simp [upto]
  | succ n ih =>
    rw [upto, List.mem_cons, ih]
    constructor
    · rintro (h | ⟨j, hj, h⟩)
      · exact ⟨n, Nat.lt_succ_self n, h⟩
      · exact ⟨j, Nat.lt_succ_of_lt hj, h⟩
    · rintro ⟨j, hj, h⟩
      rcases Nat.lt_succ_iff_lt_or_eq.mp hj with h' | rfl
      · exact .inr ⟨j, h', h⟩
      · exact .inl h

/-- Pieces equal tile by tile are equal. -/
theorem upto_congr {f g : (j : ℕ) → (r j).shape.Idx → Val e} {n : ℕ} (h : ∀ j < n, f j = g j) : upto r f n = upto r g n := by
  induction n with
  | zero => rfl
  | succ n ih => rw [upto, upto, h n (Nat.lt_succ_self n), ih fun j hj => h j (Nat.lt_succ_of_lt hj)]

/-- Where the tiles are the restrictions of one array, the pieces leave that array on every index they cover. -/
theorem canon_upto [∀ e, Nonempty (Val e)] (G : s.Idx → Val e) {f : (j : ℕ) → (r j).shape.Idx → Val e} {n : ℕ}
    (hG : ∀ j < n, ∀ x, f j x = G ((r j).emb x)) (y : s.Idx) (hy : ∃ j < n, y ∈ (r j).set) : View.canon (upto r f n) y = G y := by
  refine View.canon_apply_of_pieces G _ ?_ y ?_
  · intro p hp x
    obtain ⟨j, hj, rfl⟩ := mem_upto.mp hp
    exact hG j hj x
  · obtain ⟨j, hj, hm⟩ := hy
    exact ⟨_, mem_upto.mpr ⟨j, hj, rfl⟩, hm⟩

end General

/-! ## Which tile an index lies in -/

theorem lane_mem (y : S256x5120.Idx) : ∃ j < 40, y ∈ (laneRect j).set := by
  have h0 : (y 0).val < 256 := (y 0).isLt
  have h1 : (y 1).val < 5120 := (y 1).isLt
  refine ⟨(y 1).val / 128, by omega, Rect.mem_set_unit.mpr fun a => ?_⟩
  match a with
  | 0 => exact ⟨Nat.zero_le _, by show (y 0).val < 0 + 256; omega⟩
  | 1 =>
    exact ⟨by show 128 * ((y 1).val / 128 % 40) ≤ (y 1).val; omega, by show (y 1).val < 128 * ((y 1).val / 128 % 40) + 128; omega⟩

theorem col_mem (y : S256x5120.Idx) : ∃ j < 10, y ∈ (colRect j).set := by
  have h0 : (y 0).val < 256 := (y 0).isLt
  have h1 : (y 1).val < 5120 := (y 1).isLt
  refine ⟨(y 1).val / 512, by omega, Rect.mem_set_unit.mpr fun a => ?_⟩
  match a with
  | 0 => exact ⟨Nat.zero_le _, by show (y 0).val < 0 + 256; omega⟩
  | 1 =>
    exact ⟨by show 512 * ((y 1).val / 512 % 10) ≤ (y 1).val; omega, by show (y 1).val < 512 * ((y 1).val / 512 % 10) + 512; omega⟩

theorem row_mem (y : S4096x128.Idx) : ∃ j < 16, y ∈ (rowRect j).set := by
  have h0 : (y 0).val < 4096 := (y 0).isLt
  have h1 : (y 1).val < 128 := (y 1).isLt
  refine ⟨(y 0).val % 16, by omega, (LoadRect.mem_set _).mpr fun a => ?_⟩
  match a with
  | 0 => exact ⟨(y 0).val / 16, by show (y 0).val / 16 < 256; omega, by show (y 0).val = (y 0).val % 16 % 16 + 16 * ((y 0).val / 16); omega⟩
  | 1 => exact ⟨(y 1).val, by show (y 1).val < 128; omega, by show (y 1).val = 0 + 1 * (y 1).val; omega⟩

/-! ## Tiles glued -/

variable {α : Type}

theorem lt_lane (y : S256x5120.Idx) : (y 1).val % 128 < 128 := Nat.mod_lt _ (by decide)
theorem lt_col (y : S256x5120.Idx) : (y 1).val % 512 < 512 := Nat.mod_lt _ (by decide)

/-- Lane tiles side by side. -/
def glueLane (f : ℕ → S256x128.Idx → α) : S256x5120.Idx → α :=
  fun y => f ((y 1).val / 128) (ix2 (n0 := 256) (n1 := 128) (y 0) ⟨(y 1).val % 128, lt_lane y⟩)

/-- Column groups side by side. -/
def glueCol (f : ℕ → S256x512.Idx → α) : S256x5120.Idx → α :=
  fun y => f ((y 1).val / 512) (ix2 (n0 := 256) (n1 := 512) (y 0) ⟨(y 1).val % 512, lt_col y⟩)

theorem lt_row (y : S4096x128.Idx) : (y 0).val / 16 < 256 := by
  have h0 : (y 0).val < 4096 := (y 0).isLt
  omega

/-- Lane tiles interleaved by rows: row `16 i + j` is row `i` of tile `j`. -/
def glueRow (f : ℕ → S256x128.Idx → α) : S4096x128.Idx → α :=
  fun y => f ((y 0).val % 16) (ix2 (n0 := 256) (n1 := 128) ⟨(y 0).val / 16, lt_row y⟩ (y 1))

theorem glueLane_emb (f : ℕ → S256x128.Idx → α) {j : ℕ} (hj : j < 40) (x : S256x128.Idx) :
    f j x = glueLane f ((laneRect j).emb x) := by
  have h1 : (x 1).val < 128 := (x 1).isLt
  have e1 : (((laneRect j).emb x) 1).val = 128 * (j % 40) + 1 * (x 1).val := rfl
  have e0 : (((laneRect j).emb x) 0).val = 0 + 1 * (x 0).val := rfl
  unfold glueLane
  have hd : (((laneRect j).emb x) 1).val / 128 = j := by rw [e1]; omega
  rw [hd]
  congr 1
  funext a
  match a with
  | 0 => apply Fin.ext; show (x 0).val = (((laneRect j).emb x) 0).val; rw [e0]; omega
  | 1 => apply Fin.ext; show (x 1).val = (((laneRect j).emb x) 1).val % 128; rw [e1]; omega

theorem glueCol_emb (f : ℕ → S256x512.Idx → α) {j : ℕ} (hj : j < 10) (x : S256x512.Idx) :
    f j x = glueCol f ((colRect j).emb x) := by
  have h1 : (x 1).val < 512 := (x 1).isLt
  have e1 : (((colRect j).emb x) 1).val = 512 * (j % 10) + 1 * (x 1).val := rfl
  have e0 : (((colRect j).emb x) 0).val = 0 + 1 * (x 0).val := rfl
  unfold glueCol
  have hd : (((colRect j).emb x) 1).val / 512 = j := by rw [e1]; omega
  rw [hd]
  congr 1
  funext a
  match a with
  | 0 => apply Fin.ext; show (x 0).val = (((colRect j).emb x) 0).val; rw [e0]; omega
  | 1 => apply Fin.ext; show (x 1).val = (((colRect j).emb x) 1).val % 512; rw [e1]; omega

theorem glueRow_emb (f : ℕ → S256x128.Idx → α) {j : ℕ} (hj : j < 16) (x : S256x128.Idx) :
    f j x = glueRow f ((rowRect j).emb x) := by
  have h0 : (x 0).val < 256 := (x 0).isLt
  have e0 : (((rowRect j).emb x) 0).val = j % 16 + 16 * (x 0).val := rfl
  have e1 : (((rowRect j).emb x) 1).val = 0 + 1 * (x 1).val := rfl
  unfold glueRow
  have hd : (((rowRect j).emb x) 0).val % 16 = j := by rw [e0]; omega
  rw [hd]
  congr 1
  funext a
  match a with
  | 0 => apply Fin.ext; show (x 0).val = (((rowRect j).emb x) 0).val / 16; rw [e0]; omega
  | 1 => apply Fin.ext; show (x 1).val = (((rowRect j).emb x) 1).val; rw [e1]; omega

end Cert.KernelIdeal.Tiles

namespace Cert.KernelIdeal.Body

open Cert.KernelIdeal Cert.KernelIdeal.Gen Cert.KernelIdeal.Tiles
open Idealize.ShloMosaic Idealize.ShloMosaic.TcCoe Idealize.ShloMosaic.Tactic

variable {F : FTy → Type} [FloatOps F] (L : Loads F)

/-! ## The codes and the results, free of the buffers -/

/-- The first codes. -/
def codes1 : Vec F S256x5120 .fp8e4m3 := glueLane fun j => quant128 (mScale L) (rT L j)

/-- The second codes. -/
def codes2 : Vec F S256x5120 .fp8e4m3 := glueCol fun n => quant512 (gScale L (codes1 L)) (gT L (codes1 L) n)

/-- The second product. -/
def merged : Vec F S4096x128 .f32 := glueRow fun j => mgT L (gScale L (codes1 L)) (codes2 L) j

theorem canon_lane {e : EltTy} (f : ℕ → S256x128.Idx → Elt F e) :
    View.canon (Val := Elt F) (upto laneRect f 40) = glueLane f :=
  funext fun y => canon_upto _ (fun j hj x => glueLane_emb f hj x) y (lane_mem y)

theorem canon_col {e : EltTy} (f : ℕ → S256x512.Idx → Elt F e) :
    View.canon (Val := Elt F) (upto colRect f 10) = glueCol f :=
  funext fun y => canon_upto _ (fun j hj x => glueCol_emb f hj x) y (col_mem y)

theorem canon_row {e : EltTy} (f : ℕ → S256x128.Idx → Elt F e) :
    View.canon (Val := Elt F) (upto rowRect f 16) = glueRow f :=
  funext fun y => canon_upto _ (fun j hj x => glueRow_emb f hj x) y (row_mem y)

theorem wholeRect_idx (x : S256x5120.Idx) : wholeRect.idx x = x := by
  funext a
  match a with
  | 0 => apply Fin.ext; show 0 + 1 * (x 0).val = _; omega
  | 1 => apply Fin.ext; show 0 + 1 * (x 1).val = _; omega

/-- A lane tile of the normalised rows, read back. -/
theorem read_r (arg23 : Memref sig .tc .vmem S256x5120 .f32) {j : ℕ} (hj : j < 40) :
    arg23.view.readCov (rPieces L) (laneRect j).toLoadRect = rT L j := by
  rw [View.readCov_eq_canon']
  funext x
  show View.canon (rPieces L) ((laneRect j).emb x) = _
  rw [rPieces, canon_lane, ← glueLane_emb _ hj]
  exact congrFun (shapeCast_id _ _) x

/-- The first codes, read back. -/
theorem mRead_eq (arg18 : Memref sig .tc .vmem S256x5120 .fp8e4m3) (arg23 : Memref sig .tc .vmem S256x5120 .f32) :
    mRead L arg18 arg23 = codes1 L := by
  rw [mRead, View.readCov_eq_canon']
  funext x
  rw [wholeRect_idx, mPieces, canon_lane]
  show quant128 _ _ _ = quant128 _ _ _
  rw [read_r L arg23 (j := (x 1).val / 128)]
  have h1 : (x 1).val < 5120 := (x 1).isLt
  omega

/-- A column group of the GELU, read back. -/
theorem read_g (q : Vec F S256x5120 .fp8e4m3) (arg24 : Memref sig .tc .vmem S256x5120 .f32) {n : ℕ} (hn : n < 10) :
    arg24.view.readCov (gPieces L q) (colRect n).toLoadRect = gT L q n := by
  rw [View.readCov_eq_canon']
  funext x
  show View.canon (gPieces L q) ((colRect n).emb x) = _
  rw [gPieces, canon_col, ← glueCol_emb _ hn]
  exact congrFun (shapeCast_id _ _) x

/-- What the second codes' stores leave. -/
theorem canon_gc (arg24 : Memref sig .tc .vmem S256x5120 .f32) :
    View.canon (gcPieces L (codes1 L) fun n => arg24.view.readCov (gPieces L (codes1 L)) (colRect n).toLoadRect) = codes2 L := by
  funext x
  rw [gcPieces, canon_col]
  show quant512 _ _ _ = quant512 _ _ _
  rw [read_g L _ arg24 (n := (x 1).val / 512)]
  have h1 : (x 1).val < 5120 := (x 1).isLt
  omega

/-- The second codes, read back. -/
theorem gcRead_eq (arg20 : Memref sig .tc .vmem S256x5120 .fp8e4m3) (arg24 : Memref sig .tc .vmem S256x5120 .f32) :
    gcRead L (codes1 L) arg20 arg24 = codes2 L := by
  rw [gcRead, View.readCov_eq_canon', canon_gc]
  funext x
  rw [wholeRect_idx]

/-- What the first codes' stores leave. -/
theorem canon_m (arg23 : Memref sig .tc .vmem S256x5120 .f32) :
    View.canon (mPieces L fun j => arg23.view.readCov (rPieces L) (laneRect j).toLoadRect) = codes1 L := by
  funext x
  rw [mPieces, canon_lane]
  show quant128 _ _ _ = quant128 _ _ _
  rw [read_r L arg23 (j := (x 1).val / 128)]
  have h1 : (x 1).val < 5120 := (x 1).isLt
  omega

/-- What the second product's stores leave. -/
theorem canon_mg : View.canon (mgPieces L (codes1 L) (codes2 L)) = merged L := by
  rw [mgPieces, canon_row]; rfl

theorem zero3 : (![0, 0, 0] : Fin 3 → ℕ) = fun _ => 0 := by
  funext a
  match a with
  | 0 => rfl
  | 1 => rfl
  | 2 => rfl

/-- The second product's pieces cover its block. -/
theorem cover_mg (q qq : Vec F S256x5120 .fp8e4m3) (y : S4096x128.Idx) : ∃ pc ∈ mgPieces L q qq, y ∈ pc.1.set := by
  obtain ⟨j, hj, hm⟩ := row_mem y
  exact ⟨_, mem_upto.mpr ⟨j, hj, rfl⟩, hm⟩

end Cert.KernelIdeal.Body
-- ==== Proof.Ideal.Frame.lean ====
/- The proof data, the body obligation, the run of @main and the frame of the merger kernel (any float operations). -/
module

public import proofs.«01_k».proof.Proof.Ideal.Reads
public import Idealize.ShloMosaic.Lib.Claim

@[expose] public section

-- membership in a rectangle of production extents (`View.cover_of_tiled`): the elaborator's structural look
-- recurses once per coordinate of the long axes
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 17 tile its block (40 stores of `S256x128`, checked by the kernel's evaluation: Lib/Ring.lean `Piece.tiledL`, linear in the pieces, through a loop's `@[irreducible]` trip theorem too), so they cover it. -/
theorem cover0_A_17 (c : Dev nD) (i : grid0.Coords) (arg1 : Memref sig .tc .vmem S1024x128 .bf16) (harg1 : arg1.IsWhole) (arg2 : Memref sig .tc .vmem S1024x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S1024x128 .bf16) (harg9 : arg9.IsWhole) (arg10 : Memref sig .tc .vmem S1024x128 .bf16) (harg10 : arg10.IsWhole) (arg11 : Memref sig .tc .vmem S1x1280 .f32) (harg11 : arg11.IsWhole) (arg12 : Memref sig .tc .vmem S5120x5120 .fp8e4m3) (harg12 : arg12.IsWhole) (arg13 : Memref sig .tc .vmem S1x5120 .f32) (harg13 : arg13.IsWhole) (arg14 : Memref sig .tc .vmem S1x5120 .f32) (harg14 : arg14.IsWhole) (arg15 : Memref sig .tc .vmem S5120x2048 .fp8e4m3) (harg15 : arg15.IsWhole) (arg16 : Memref sig .tc .vmem S1x2048 .f32) (harg16 : arg16.IsWhole) (arg17 : Memref sig .tc .vmem S1x2048 .f32) (harg17 : arg17.IsWhole) (arg18 : Memref sig .tc .vmem S256x5120 .fp8e4m3) (harg18 : arg18.IsWhole) (arg19 : Memref sig .tc .vmem S1x1x256 .f32) (harg19 : arg19.IsWhole) (arg20 : Memref sig .tc .vmem S256x5120 .fp8e4m3) (harg20 : arg20.IsWhole) (arg21 : Memref sig .tc .vmem S1x1x256 .f32) (harg21 : arg21.IsWhole) (arg22 : Memref sig .tc .vmem S4096x128 .f32) (harg22 : arg22.IsWhole) (arg23 : Memref sig .tc .vmem S256x5120 .f32) (harg23 : arg23.IsWhole) (arg24 : Memref sig .tc .vmem S256x5120 .f32) (harg24 : arg24.IsWhole)
    (x0 : Vec F S1024x128 .bf16) (x1 : Vec F S1024x128 .bf16) (x2 : Vec F S1024x128 .bf16) (x3 : Vec F S1024x128 .bf16) (x4 : Vec F S1024x128 .bf16) (x5 : Vec F S1024x128 .bf16) (x6 : Vec F S1024x128 .bf16) (x7 : Vec F S1024x128 .bf16) (x8 : Vec F S1024x128 .bf16) (x9 : Vec F S1024x128 .bf16) (x10 : Vec F S1x1280 .f32) (x11 : Vec F S5120x5120 .fp8e4m3) (x12 : Vec F S1x5120 .f32) (x13 : Vec F S1x5120 .f32) (x14 : Vec F S5120x2048 .fp8e4m3) (x15 : Vec F S1x2048 .f32) (x16 : Vec F S1x2048 .f32) (y : S256x5120.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16).1 S256x128.size (by sl_kernel_rfl) y

/-- What the run leaves in output 17's staging buffer: its pieces read back over junk. -/
def out0_A_17 (c : Dev nD) (i : grid0.Coords) (arg1 : Memref sig .tc .vmem S1024x128 .bf16) (harg1 : arg1.IsWhole) (arg2 : Memref sig .tc .vmem S1024x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S1024x128 .bf16) (harg9 : arg9.IsWhole) (arg10 : Memref sig .tc .vmem S1024x128 .bf16) (harg10 : arg10.IsWhole) (arg11 : Memref sig .tc .vmem S1x1280 .f32) (harg11 : arg11.IsWhole) (arg12 : Memref sig .tc .vmem S5120x5120 .fp8e4m3) (harg12 : arg12.IsWhole) (arg13 : Memref sig .tc .vmem S1x5120 .f32) (harg13 : arg13.IsWhole) (arg14 : Memref sig .tc .vmem S1x5120 .f32) (harg14 : arg14.IsWhole) (arg15 : Memref sig .tc .vmem S5120x2048 .fp8e4m3) (harg15 : arg15.IsWhole) (arg16 : Memref sig .tc .vmem S1x2048 .f32) (harg16 : arg16.IsWhole) (arg17 : Memref sig .tc .vmem S1x2048 .f32) (harg17 : arg17.IsWhole) (arg18 : Memref sig .tc .vmem S256x5120 .fp8e4m3) (harg18 : arg18.IsWhole) (arg19 : Memref sig .tc .vmem S1x1x256 .f32) (harg19 : arg19.IsWhole) (arg20 : Memref sig .tc .vmem S256x5120 .fp8e4m3) (harg20 : arg20.IsWhole) (arg21 : Memref sig .tc .vmem S1x1x256 .f32) (harg21 : arg21.IsWhole) (arg22 : Memref sig .tc .vmem S4096x128 .f32) (harg22 : arg22.IsWhole) (arg23 : Memref sig .tc .vmem S256x5120 .f32) (harg23 : arg23.IsWhole) (arg24 : Memref sig .tc .vmem S256x5120 .f32) (harg24 : arg24.IsWhole)
    (x0 : Vec F S1024x128 .bf16) (x1 : Vec F S1024x128 .bf16) (x2 : Vec F S1024x128 .bf16) (x3 : Vec F S1024x128 .bf16) (x4 : Vec F S1024x128 .bf16) (x5 : Vec F S1024x128 .bf16) (x6 : Vec F S1024x128 .bf16) (x7 : Vec F S1024x128 .bf16) (x8 : Vec F S1024x128 .bf16) (x9 : Vec F S1024x128 .bf16) (x10 : Vec F S1x1280 .f32) (x11 : Vec F S5120x5120 .fp8e4m3) (x12 : Vec F S1x5120 .f32) (x13 : Vec F S1x5120 .f32) (x14 : Vec F S5120x2048 .fp8e4m3) (x15 : Vec F S1x2048 .f32) (x16 : Vec F S1x2048 .f32) : Vec F S256x5120 .fp8e4m3 :=
  VO0_17.read (Elt F) (VO0_17.writes (Elt F) VO0_17.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16).1)

/-- The run's pieces for output 18 tile its block (1 store of `S1x1x256`, checked by the kernel's evaluation: Lib/Ring.lean `Piece.tiledL`, linear in the pieces, through a loop's `@[irreducible]` trip theorem too), so they cover it. -/
theorem cover0_A_18 (c : Dev nD) (i : grid0.Coords) (arg1 : Memref sig .tc .vmem S1024x128 .bf16) (harg1 : arg1.IsWhole) (arg2 : Memref sig .tc .vmem S1024x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S1024x128 .bf16) (harg9 : arg9.IsWhole) (arg10 : Memref sig .tc .vmem S1024x128 .bf16) (harg10 : arg10.IsWhole) (arg11 : Memref sig .tc .vmem S1x1280 .f32) (harg11 : arg11.IsWhole) (arg12 : Memref sig .tc .vmem S5120x5120 .fp8e4m3) (harg12 : arg12.IsWhole) (arg13 : Memref sig .tc .vmem S1x5120 .f32) (harg13 : arg13.IsWhole) (arg14 : Memref sig .tc .vmem S1x5120 .f32) (harg14 : arg14.IsWhole) (arg15 : Memref sig .tc .vmem S5120x2048 .fp8e4m3) (harg15 : arg15.IsWhole) (arg16 : Memref sig .tc .vmem S1x2048 .f32) (harg16 : arg16.IsWhole) (arg17 : Memref sig .tc .vmem S1x2048 .f32) (harg17 : arg17.IsWhole) (arg18 : Memref sig .tc .vmem S256x5120 .fp8e4m3) (harg18 : arg18.IsWhole) (arg19 : Memref sig .tc .vmem S1x1x256 .f32) (harg19 : arg19.IsWhole) (arg20 : Memref sig .tc .vmem S256x5120 .fp8e4m3) (harg20 : arg20.IsWhole) (arg21 : Memref sig .tc .vmem S1x1x256 .f32) (harg21 : arg21.IsWhole) (arg22 : Memref sig .tc .vmem S4096x128 .f32) (harg22 : arg22.IsWhole) (arg23 : Memref sig .tc .vmem S256x5120 .f32) (harg23 : arg23.IsWhole) (arg24 : Memref sig .tc .vmem S256x5120 .f32) (harg24 : arg24.IsWhole)
    (x0 : Vec F S1024x128 .bf16) (x1 : Vec F S1024x128 .bf16) (x2 : Vec F S1024x128 .bf16) (x3 : Vec F S1024x128 .bf16) (x4 : Vec F S1024x128 .bf16) (x5 : Vec F S1024x128 .bf16) (x6 : Vec F S1024x128 .bf16) (x7 : Vec F S1024x128 .bf16) (x8 : Vec F S1024x128 .bf16) (x9 : Vec F S1024x128 .bf16) (x10 : Vec F S1x1280 .f32) (x11 : Vec F S5120x5120 .fp8e4m3) (x12 : Vec F S1x5120 .f32) (x13 : Vec F S1x5120 .f32) (x14 : Vec F S5120x2048 .fp8e4m3) (x15 : Vec F S1x2048 .f32) (x16 : Vec F S1x2048 .f32) (y : S1x1x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16).2.1 S1x1x256.size (by sl_kernel_rfl) y

/-- What the run leaves in output 18's staging buffer: its pieces read back over junk. -/
def out0_A_18 (c : Dev nD) (i : grid0.Coords) (arg1 : Memref sig .tc .vmem S1024x128 .bf16) (harg1 : arg1.IsWhole) (arg2 : Memref sig .tc .vmem S1024x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S1024x128 .bf16) (harg9 : arg9.IsWhole) (arg10 : Memref sig .tc .vmem S1024x128 .bf16) (harg10 : arg10.IsWhole) (arg11 : Memref sig .tc .vmem S1x1280 .f32) (harg11 : arg11.IsWhole) (arg12 : Memref sig .tc .vmem S5120x5120 .fp8e4m3) (harg12 : arg12.IsWhole) (arg13 : Memref sig .tc .vmem S1x5120 .f32) (harg13 : arg13.IsWhole) (arg14 : Memref sig .tc .vmem S1x5120 .f32) (harg14 : arg14.IsWhole) (arg15 : Memref sig .tc .vmem S5120x2048 .fp8e4m3) (harg15 : arg15.IsWhole) (arg16 : Memref sig .tc .vmem S1x2048 .f32) (harg16 : arg16.IsWhole) (arg17 : Memref sig .tc .vmem S1x2048 .f32) (harg17 : arg17.IsWhole) (arg18 : Memref sig .tc .vmem S256x5120 .fp8e4m3) (harg18 : arg18.IsWhole) (arg19 : Memref sig .tc .vmem S1x1x256 .f32) (harg19 : arg19.IsWhole) (arg20 : Memref sig .tc .vmem S256x5120 .fp8e4m3) (harg20 : arg20.IsWhole) (arg21 : Memref sig .tc .vmem S1x1x256 .f32) (harg21 : arg21.IsWhole) (arg22 : Memref sig .tc .vmem S4096x128 .f32) (harg22 : arg22.IsWhole) (arg23 : Memref sig .tc .vmem S256x5120 .f32) (harg23 : arg23.IsWhole) (arg24 : Memref sig .tc .vmem S256x5120 .f32) (harg24 : arg24.IsWhole)
    (x0 : Vec F S1024x128 .bf16) (x1 : Vec F S1024x128 .bf16) (x2 : Vec F S1024x128 .bf16) (x3 : Vec F S1024x128 .bf16) (x4 : Vec F S1024x128 .bf16) (x5 : Vec F S1024x128 .bf16) (x6 : Vec F S1024x128 .bf16) (x7 : Vec F S1024x128 .bf16) (x8 : Vec F S1024x128 .bf16) (x9 : Vec F S1024x128 .bf16) (x10 : Vec F S1x1280 .f32) (x11 : Vec F S5120x5120 .fp8e4m3) (x12 : Vec F S1x5120 .f32) (x13 : Vec F S1x5120 .f32) (x14 : Vec F S5120x2048 .fp8e4m3) (x15 : Vec F S1x2048 .f32) (x16 : Vec F S1x2048 .f32) : Vec F S1x1x256 .f32 :=
  VO0_18.read (Elt F) (VO0_18.writes (Elt F) VO0_18.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16).2.1)

/-- The run's pieces for output 19 tile its block (10 stores of `S256x512`, checked by the kernel's evaluation: Lib/Ring.lean `Piece.tiledL`, linear in the pieces, through a loop's `@[irreducible]` trip theorem too), so they cover it. -/
theorem cover0_A_19 (c : Dev nD) (i : grid0.Coords) (arg1 : Memref sig .tc .vmem S1024x128 .bf16) (harg1 : arg1.IsWhole) (arg2 : Memref sig .tc .vmem S1024x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S1024x128 .bf16) (harg9 : arg9.IsWhole) (arg10 : Memref sig .tc .vmem S1024x128 .bf16) (harg10 : arg10.IsWhole) (arg11 : Memref sig .tc .vmem S1x1280 .f32) (harg11 : arg11.IsWhole) (arg12 : Memref sig .tc .vmem S5120x5120 .fp8e4m3) (harg12 : arg12.IsWhole) (arg13 : Memref sig .tc .vmem S1x5120 .f32) (harg13 : arg13.IsWhole) (arg14 : Memref sig .tc .vmem S1x5120 .f32) (harg14 : arg14.IsWhole) (arg15 : Memref sig .tc .vmem S5120x2048 .fp8e4m3) (harg15 : arg15.IsWhole) (arg16 : Memref sig .tc .vmem S1x2048 .f32) (harg16 : arg16.IsWhole) (arg17 : Memref sig .tc .vmem S1x2048 .f32) (harg17 : arg17.IsWhole) (arg18 : Memref sig .tc .vmem S256x5120 .fp8e4m3) (harg18 : arg18.IsWhole) (arg19 : Memref sig .tc .vmem S1x1x256 .f32) (harg19 : arg19.IsWhole) (arg20 : Memref sig .tc .vmem S256x5120 .fp8e4m3) (harg20 : arg20.IsWhole) (arg21 : Memref sig .tc .vmem S1x1x256 .f32) (harg21 : arg21.IsWhole) (arg22 : Memref sig .tc .vmem S4096x128 .f32) (harg22 : arg22.IsWhole) (arg23 : Memref sig .tc .vmem S256x5120 .f32) (harg23 : arg23.IsWhole) (arg24 : Memref sig .tc .vmem S256x5120 .f32) (harg24 : arg24.IsWhole)
    (x0 : Vec F S1024x128 .bf16) (x1 : Vec F S1024x128 .bf16) (x2 : Vec F S1024x128 .bf16) (x3 : Vec F S1024x128 .bf16) (x4 : Vec F S1024x128 .bf16) (x5 : Vec F S1024x128 .bf16) (x6 : Vec F S1024x128 .bf16) (x7 : Vec F S1024x128 .bf16) (x8 : Vec F S1024x128 .bf16) (x9 : Vec F S1024x128 .bf16) (x10 : Vec F S1x1280 .f32) (x11 : Vec F S5120x5120 .fp8e4m3) (x12 : Vec F S1x5120 .f32) (x13 : Vec F S1x5120 .f32) (x14 : Vec F S5120x2048 .fp8e4m3) (x15 : Vec F S1x2048 .f32) (x16 : Vec F S1x2048 .f32) (y : S256x5120.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16).2.2.1 S256x512.size (by sl_kernel_rfl) y

/-- What the run leaves in output 19's staging buffer: its pieces read back over junk. -/
def out0_A_19 (c : Dev nD) (i : grid0.Coords) (arg1 : Memref sig .tc .vmem S1024x128 .bf16) (harg1 : arg1.IsWhole) (arg2 : Memref sig .tc .vmem S1024x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S1024x128 .bf16) (harg9 : arg9.IsWhole) (arg10 : Memref sig .tc .vmem S1024x128 .bf16) (harg10 : arg10.IsWhole) (arg11 : Memref sig .tc .vmem S1x1280 .f32) (harg11 : arg11.IsWhole) (arg12 : Memref sig .tc .vmem S5120x5120 .fp8e4m3) (harg12 : arg12.IsWhole) (arg13 : Memref sig .tc .vmem S1x5120 .f32) (harg13 : arg13.IsWhole) (arg14 : Memref sig .tc .vmem S1x5120 .f32) (harg14 : arg14.IsWhole) (arg15 : Memref sig .tc .vmem S5120x2048 .fp8e4m3) (harg15 : arg15.IsWhole) (arg16 : Memref sig .tc .vmem S1x2048 .f32) (harg16 : arg16.IsWhole) (arg17 : Memref sig .tc .vmem S1x2048 .f32) (harg17 : arg17.IsWhole) (arg18 : Memref sig .tc .vmem S256x5120 .fp8e4m3) (harg18 : arg18.IsWhole) (arg19 : Memref sig .tc .vmem S1x1x256 .f32) (harg19 : arg19.IsWhole) (arg20 : Memref sig .tc .vmem S256x5120 .fp8e4m3) (harg20 : arg20.IsWhole) (arg21 : Memref sig .tc .vmem S1x1x256 .f32) (harg21 : arg21.IsWhole) (arg22 : Memref sig .tc .vmem S4096x128 .f32) (harg22 : arg22.IsWhole) (arg23 : Memref sig .tc .vmem S256x5120 .f32) (harg23 : arg23.IsWhole) (arg24 : Memref sig .tc .vmem S256x5120 .f32) (harg24 : arg24.IsWhole)
    (x0 : Vec F S1024x128 .bf16) (x1 : Vec F S1024x128 .bf16) (x2 : Vec F S1024x128 .bf16) (x3 : Vec F S1024x128 .bf16) (x4 : Vec F S1024x128 .bf16) (x5 : Vec F S1024x128 .bf16) (x6 : Vec F S1024x128 .bf16) (x7 : Vec F S1024x128 .bf16) (x8 : Vec F S1024x128 .bf16) (x9 : Vec F S1024x128 .bf16) (x10 : Vec F S1x1280 .f32) (x11 : Vec F S5120x5120 .fp8e4m3) (x12 : Vec F S1x5120 .f32) (x13 : Vec F S1x5120 .f32) (x14 : Vec F S5120x2048 .fp8e4m3) (x15 : Vec F S1x2048 .f32) (x16 : Vec F S1x2048 .f32) : Vec F S256x5120 .fp8e4m3 :=
  VO0_19.read (Elt F) (VO0_19.writes (Elt F) VO0_19.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16).2.2.1)

/-- The run's pieces for output 20 tile its block (1 store of `S1x1x256`, checked by the kernel's evaluation: Lib/Ring.lean `Piece.tiledL`, linear in the pieces, through a loop's `@[irreducible]` trip theorem too), so they cover it. -/
theorem cover0_A_20 (c : Dev nD) (i : grid0.Coords) (arg1 : Memref sig .tc .vmem S1024x128 .bf16) (harg1 : arg1.IsWhole) (arg2 : Memref sig .tc .vmem S1024x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S1024x128 .bf16) (harg9 : arg9.IsWhole) (arg10 : Memref sig .tc .vmem S1024x128 .bf16) (harg10 : arg10.IsWhole) (arg11 : Memref sig .tc .vmem S1x1280 .f32) (harg11 : arg11.IsWhole) (arg12 : Memref sig .tc .vmem S5120x5120 .fp8e4m3) (harg12 : arg12.IsWhole) (arg13 : Memref sig .tc .vmem S1x5120 .f32) (harg13 : arg13.IsWhole) (arg14 : Memref sig .tc .vmem S1x5120 .f32) (harg14 : arg14.IsWhole) (arg15 : Memref sig .tc .vmem S5120x2048 .fp8e4m3) (harg15 : arg15.IsWhole) (arg16 : Memref sig .tc .vmem S1x2048 .f32) (harg16 : arg16.IsWhole) (arg17 : Memref sig .tc .vmem S1x2048 .f32) (harg17 : arg17.IsWhole) (arg18 : Memref sig .tc .vmem S256x5120 .fp8e4m3) (harg18 : arg18.IsWhole) (arg19 : Memref sig .tc .vmem S1x1x256 .f32) (harg19 : arg19.IsWhole) (arg20 : Memref sig .tc .vmem S256x5120 .fp8e4m3) (harg20 : arg20.IsWhole) (arg21 : Memref sig .tc .vmem S1x1x256 .f32) (harg21 : arg21.IsWhole) (arg22 : Memref sig .tc .vmem S4096x128 .f32) (harg22 : arg22.IsWhole) (arg23 : Memref sig .tc .vmem S256x5120 .f32) (harg23 : arg23.IsWhole) (arg24 : Memref sig .tc .vmem S256x5120 .f32) (harg24 : arg24.IsWhole)
    (x0 : Vec F S1024x128 .bf16) (x1 : Vec F S1024x128 .bf16) (x2 : Vec F S1024x128 .bf16) (x3 : Vec F S1024x128 .bf16) (x4 : Vec F S1024x128 .bf16) (x5 : Vec F S1024x128 .bf16) (x6 : Vec F S1024x128 .bf16) (x7 : Vec F S1024x128 .bf16) (x8 : Vec F S1024x128 .bf16) (x9 : Vec F S1024x128 .bf16) (x10 : Vec F S1x1280 .f32) (x11 : Vec F S5120x5120 .fp8e4m3) (x12 : Vec F S1x5120 .f32) (x13 : Vec F S1x5120 .f32) (x14 : Vec F S5120x2048 .fp8e4m3) (x15 : Vec F S1x2048 .f32) (x16 : Vec F S1x2048 .f32) (y : S1x1x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16).2.2.2.1 S1x1x256.size (by sl_kernel_rfl) y

/-- What the run leaves in output 20's staging buffer: its pieces read back over junk. -/
def out0_A_20 (c : Dev nD) (i : grid0.Coords) (arg1 : Memref sig .tc .vmem S1024x128 .bf16) (harg1 : arg1.IsWhole) (arg2 : Memref sig .tc .vmem S1024x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S1024x128 .bf16) (harg9 : arg9.IsWhole) (arg10 : Memref sig .tc .vmem S1024x128 .bf16) (harg10 : arg10.IsWhole) (arg11 : Memref sig .tc .vmem S1x1280 .f32) (harg11 : arg11.IsWhole) (arg12 : Memref sig .tc .vmem S5120x5120 .fp8e4m3) (harg12 : arg12.IsWhole) (arg13 : Memref sig .tc .vmem S1x5120 .f32) (harg13 : arg13.IsWhole) (arg14 : Memref sig .tc .vmem S1x5120 .f32) (harg14 : arg14.IsWhole) (arg15 : Memref sig .tc .vmem S5120x2048 .fp8e4m3) (harg15 : arg15.IsWhole) (arg16 : Memref sig .tc .vmem S1x2048 .f32) (harg16 : arg16.IsWhole) (arg17 : Memref sig .tc .vmem S1x2048 .f32) (harg17 : arg17.IsWhole) (arg18 : Memref sig .tc .vmem S256x5120 .fp8e4m3) (harg18 : arg18.IsWhole) (arg19 : Memref sig .tc .vmem S1x1x256 .f32) (harg19 : arg19.IsWhole) (arg20 : Memref sig .tc .vmem S256x5120 .fp8e4m3) (harg20 : arg20.IsWhole) (arg21 : Memref sig .tc .vmem S1x1x256 .f32) (harg21 : arg21.IsWhole) (arg22 : Memref sig .tc .vmem S4096x128 .f32) (harg22 : arg22.IsWhole) (arg23 : Memref sig .tc .vmem S256x5120 .f32) (harg23 : arg23.IsWhole) (arg24 : Memref sig .tc .vmem S256x5120 .f32) (harg24 : arg24.IsWhole)
    (x0 : Vec F S1024x128 .bf16) (x1 : Vec F S1024x128 .bf16) (x2 : Vec F S1024x128 .bf16) (x3 : Vec F S1024x128 .bf16) (x4 : Vec F S1024x128 .bf16) (x5 : Vec F S1024x128 .bf16) (x6 : Vec F S1024x128 .bf16) (x7 : Vec F S1024x128 .bf16) (x8 : Vec F S1024x128 .bf16) (x9 : Vec F S1024x128 .bf16) (x10 : Vec F S1x1280 .f32) (x11 : Vec F S5120x5120 .fp8e4m3) (x12 : Vec F S1x5120 .f32) (x13 : Vec F S1x5120 .f32) (x14 : Vec F S5120x2048 .fp8e4m3) (x15 : Vec F S1x2048 .f32) (x16 : Vec F S1x2048 .f32) : Vec F S1x1x256 .f32 :=
  VO0_20.read (Elt F) (VO0_20.writes (Elt F) VO0_20.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16).2.2.2.1)

/-- The run's sixteen row-strided pieces for output 21 cover its block (Reads.lean). -/
theorem cover0_A_21 (c : Dev nD) (i : grid0.Coords) (arg1 : Memref sig .tc .vmem S1024x128 .bf16) (harg1 : arg1.IsWhole) (arg2 : Memref sig .tc .vmem S1024x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S1024x128 .bf16) (harg9 : arg9.IsWhole) (arg10 : Memref sig .tc .vmem S1024x128 .bf16) (harg10 : arg10.IsWhole) (arg11 : Memref sig .tc .vmem S1x1280 .f32) (harg11 : arg11.IsWhole) (arg12 : Memref sig .tc .vmem S5120x5120 .fp8e4m3) (harg12 : arg12.IsWhole) (arg13 : Memref sig .tc .vmem S1x5120 .f32) (harg13 : arg13.IsWhole) (arg14 : Memref sig .tc .vmem S1x5120 .f32) (harg14 : arg14.IsWhole) (arg15 : Memref sig .tc .vmem S5120x2048 .fp8e4m3) (harg15 : arg15.IsWhole) (arg16 : Memref sig .tc .vmem S1x2048 .f32) (harg16 : arg16.IsWhole) (arg17 : Memref sig .tc .vmem S1x2048 .f32) (harg17 : arg17.IsWhole) (arg18 : Memref sig .tc .vmem S256x5120 .fp8e4m3) (harg18 : arg18.IsWhole) (arg19 : Memref sig .tc .vmem S1x1x256 .f32) (harg19 : arg19.IsWhole) (arg20 : Memref sig .tc .vmem S256x5120 .fp8e4m3) (harg20 : arg20.IsWhole) (arg21 : Memref sig .tc .vmem S1x1x256 .f32) (harg21 : arg21.IsWhole) (arg22 : Memref sig .tc .vmem S4096x128 .f32) (harg22 : arg22.IsWhole) (arg23 : Memref sig .tc .vmem S256x5120 .f32) (harg23 : arg23.IsWhole) (arg24 : Memref sig .tc .vmem S256x5120 .f32) (harg24 : arg24.IsWhole)
    (x0 : Vec F S1024x128 .bf16) (x1 : Vec F S1024x128 .bf16) (x2 : Vec F S1024x128 .bf16) (x3 : Vec F S1024x128 .bf16) (x4 : Vec F S1024x128 .bf16) (x5 : Vec F S1024x128 .bf16) (x6 : Vec F S1024x128 .bf16) (x7 : Vec F S1024x128 .bf16) (x8 : Vec F S1024x128 .bf16) (x9 : Vec F S1024x128 .bf16) (x10 : Vec F S1x1280 .f32) (x11 : Vec F S5120x5120 .fp8e4m3) (x12 : Vec F S1x5120 .f32) (x13 : Vec F S1x5120 .f32) (x14 : Vec F S5120x2048 .fp8e4m3) (x15 : Vec F S1x2048 .f32) (x16 : Vec F S1x2048 .f32) (y : S4096x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16).2.2.2.2.1, y ∈ pc.1.set :=
  (run_mg c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16).symm ▸ cover_mg _ _ _ y

/-- What the run leaves in output 21's staging buffer: its pieces read back over junk. -/
def out0_A_21 (c : Dev nD) (i : grid0.Coords) (arg1 : Memref sig .tc .vmem S1024x128 .bf16) (harg1 : arg1.IsWhole) (arg2 : Memref sig .tc .vmem S1024x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S1024x128 .bf16) (harg9 : arg9.IsWhole) (arg10 : Memref sig .tc .vmem S1024x128 .bf16) (harg10 : arg10.IsWhole) (arg11 : Memref sig .tc .vmem S1x1280 .f32) (harg11 : arg11.IsWhole) (arg12 : Memref sig .tc .vmem S5120x5120 .fp8e4m3) (harg12 : arg12.IsWhole) (arg13 : Memref sig .tc .vmem S1x5120 .f32) (harg13 : arg13.IsWhole) (arg14 : Memref sig .tc .vmem S1x5120 .f32) (harg14 : arg14.IsWhole) (arg15 : Memref sig .tc .vmem S5120x2048 .fp8e4m3) (harg15 : arg15.IsWhole) (arg16 : Memref sig .tc .vmem S1x2048 .f32) (harg16 : arg16.IsWhole) (arg17 : Memref sig .tc .vmem S1x2048 .f32) (harg17 : arg17.IsWhole) (arg18 : Memref sig .tc .vmem S256x5120 .fp8e4m3) (harg18 : arg18.IsWhole) (arg19 : Memref sig .tc .vmem S1x1x256 .f32) (harg19 : arg19.IsWhole) (arg20 : Memref sig .tc .vmem S256x5120 .fp8e4m3) (harg20 : arg20.IsWhole) (arg21 : Memref sig .tc .vmem S1x1x256 .f32) (harg21 : arg21.IsWhole) (arg22 : Memref sig .tc .vmem S4096x128 .f32) (harg22 : arg22.IsWhole) (arg23 : Memref sig .tc .vmem S256x5120 .f32) (harg23 : arg23.IsWhole) (arg24 : Memref sig .tc .vmem S256x5120 .f32) (harg24 : arg24.IsWhole)
    (x0 : Vec F S1024x128 .bf16) (x1 : Vec F S1024x128 .bf16) (x2 : Vec F S1024x128 .bf16) (x3 : Vec F S1024x128 .bf16) (x4 : Vec F S1024x128 .bf16) (x5 : Vec F S1024x128 .bf16) (x6 : Vec F S1024x128 .bf16) (x7 : Vec F S1024x128 .bf16) (x8 : Vec F S1024x128 .bf16) (x9 : Vec F S1024x128 .bf16) (x10 : Vec F S1x1280 .f32) (x11 : Vec F S5120x5120 .fp8e4m3) (x12 : Vec F S1x5120 .f32) (x13 : Vec F S1x5120 .f32) (x14 : Vec F S5120x2048 .fp8e4m3) (x15 : Vec F S1x2048 .f32) (x16 : Vec F S1x2048 .f32) : Vec F S4096x128 .f32 :=
  VO0_21.read (Elt F) (VO0_21.writes (Elt F) VO0_21.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16).2.2.2.2.1)

/-! ## What the outputs hold after each point -/

/-- What the outputs' staging buffers hold after the body at point `t` (as a tuple, in window order): the run's contents at
    the point's memrefs and input blocks. -/
def outsAt0 (c : Dev nD) (t : Fin cfg0.N) : Vec F S256x5120 .fp8e4m3 × Vec F S1x1x256 .f32 × Vec F S256x5120 .fp8e4m3 × Vec F S1x1x256 .f32 × Vec F S4096x128 .f32 :=
  (out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t), out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t), out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t), out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t), out0_A_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => (outsAt0 m c t).1
    | ⟨18, _⟩ => (outsAt0 m c t).2.1
    | ⟨19, _⟩ => (outsAt0 m c t).2.2.1
    | ⟨20, _⟩ => (outsAt0 m c t).2.2.2.1
    | ⟨21, _⟩ => (outsAt0 m c t).2.2.2.2
    | ⟨_ + 22, h⟩ => absurd h (Nat.not_lt.2 (Nat.le_add_left _ _))
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = (outsAt0 m c t).1 := by dsimp only [dats]
theorem after0_18 (c : Dev nD) (t : Fin cfg0.N) : (dats m 0 c).after 18 t = (outsAt0 m c t).2.1 := by dsimp only [dats]
theorem after0_19 (c : Dev nD) (t : Fin cfg0.N) : (dats m 0 c).after 19 t = (outsAt0 m c t).2.2.1 := by dsimp only [dats]
theorem after0_20 (c : Dev nD) (t : Fin cfg0.N) : (dats m 0 c).after 20 t = (outsAt0 m c t).2.2.2.1 := by dsimp only [dats]
theorem after0_21 (c : Dev nD) (t : Fin cfg0.N) : (dats m 0 c).after 21 t = (outsAt0 m c t).2.2.2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t))

set_option maxHeartbeats 2400000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21]
  rw [show (dats m 0 c).Φ t.castSucc = Pipeline.ΦA spec0 c from rfl, PhiA0_eq]
  unfold outsAt0
  unfold out0_A_17 out0_A_18 out0_A_19 out0_A_20 out0_A_21; (try dsimp only)
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)).2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  isplitl [H18]; · iexists _; iexact H18
  isplitl [H19]; · iexists _; iexact H19
  isplitl [H20]; · iexists _; iexact H20
  isplitl [H21]; · iexists _; iexact H21
  isplitl [HS0]; · iexact HS0
  isplitl [HS1]; · iexact HS1
  iintro ⟨H0, H1, H2, H3, H4, H5, H6, H7, H8, H9, H10, H11, H12, H13, H14, H15, H16, ⟨%e17, H17⟩, ⟨%e18, H18⟩, ⟨%e19, H19⟩, ⟨%e20, H20⟩, ⟨%e21, H21⟩, ⟨%fT0, HS0⟩, ⟨%fT1, HS1⟩⟩
  isplitl [HS0 HS1 Hg]
  · isplitl [HS0 HS1]
    · isplitl [HS0]
      · iexists _; unfold owns; iexists _; isplitr
        swap; · iexact HS0
        ipureintro; rfl
      iexists _; unfold owns; iexists _; isplitr
      swap; · iexact HS1
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]
  · unfold owns; iexists _; isplitr
    swap; · iexact H17
    ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H18]
  · unfold owns; iexists _; isplitr
    swap; · iexact H18
    ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H19]
  · unfold owns; iexists _; isplitr
    swap; · iexact H19
    ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H20]
  · unfold owns; iexists _; isplitr
    swap; · iexact H20
    ipureintro; exact View.read_writes_of_cover _ _ _ _ _ (cover0_A_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H21
  ipureintro; exact View.read_writes_of_cover _ _ _ _ _ (cover0_A_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.KernelIdeal.Body

end
-- ==== Proof.Ideal.Loads.lean ====
/- The body's loads as entries of the input blocks, and the results' blocks as functions of the input blocks alone (any float
   operations). -/
module

public import proofs.«01_k».proof.Proof.Ideal.Frame

@[expose] public section

set_option maxRecDepth 16384

noncomputable section

namespace Cert.KernelIdeal.Body

open Cert.KernelIdeal Cert.KernelIdeal.Gen Cert.KernelIdeal.Tiles
open Idealize.ShloMosaic Idealize.ShloMosaic.TcCoe Idealize.ShloMosaic.Tactic

variable {F : FTy → Type} [FloatOps F]

theorem lt_pairRow (q : ℕ) (j : S256x2x128.Idx) : 4 * (j 0).val + 2 * (q % 2) + (j 1).val < 1024 := by
  have h0 : (j 0).val < 256 := (j 0).isLt
  have h1 : (j 1).val < 2 := (j 1).isLt
  have := Nat.mod_lt q (show 0 < 2 by decide)
  omega

/-- Pair `j 0` of the row pairs of parity `q` is rows `4 (j 0) + 2 q` and the next. -/
theorem rawLoad_eq (q : ℕ) (arg : Memref sig .tc .vmem S1024x128 .bf16) (harg : arg.IsWhole) (x : Vec F S1024x128 .bf16) :
    rawLoad q arg harg x =
      fun j => x (ix2 (n0 := 1024) (n1 := 128) ⟨4 * (j 0).val + 2 * (q % 2) + (j 1).val, lt_pairRow q j⟩ (j 2)) := by
  funext j
  refine (congrFun (harg.read_unread x) _).trans (congrArg x ?_)
  have h0 : (j 0).val < 256 := (j 0).isLt
  have h1 : (j 1).val < 2 := (j 1).isLt
  have h2 : (j 2).val < 128 := (j 2).isLt
  refine Shape.reshapeEquiv_eq_of_vals _ _ _ ((4 * (j 0).val + 2 * (q % 2) + (j 1).val) * 128 + (j 2).val)
    ((q % 2 + 2 * (j 0).val) * 256 + (0 + 1 * (j 1).val) * 128 + (0 + 1 * (j 2).val)) ?_ ?_ (by omega)
  · exact (rowMajor_val2 (d := ![1024, 128]) _ 128 rfl)
  · exact (rowMajor_val3 (d := ![512, 2, 128]) _ 256 128 rfl rfl)

/-- A load of some columns of a block of rank two, all its rows. -/
theorem colLoad_eq {R C k : ℕ} {e : EltTy} {m : Memref sig .tc .vmem ⟨2, ![R, C]⟩ e} (h : m.IsWhole) (x : Vec F ⟨2, ![R, C]⟩ e)
    (o : ℕ) (inb : ∀ a, (![0, o] : Fin 2 → ℕ) a + (⟨2, ![R, k]⟩ : Shape).size a ≤ (⟨2, ![R, C]⟩ : Shape).size a)
    (hk : ∀ j : Fin k, o + j.val < C) :
    View.readAt (Elt F) m.view (Rect.unit (s := ⟨2, ![R, C]⟩) ![0, o] (⟨2, ![R, k]⟩ : Shape).size inb).toLoadRect (h.unread x) =
      fun j => x (ix2 (j 0) ⟨o + (j 1).val, hk (j 1)⟩) := by
  funext j
  rw [h.readAt_unread]
  congr 1
  funext a
  match a with
  | 0 => apply Fin.ext; show 0 + 1 * (j 0).val = (j 0).val; omega
  | 1 => apply Fin.ext; show o + 1 * (j 1).val = o + (j 1).val; omega

theorem lt_gain (c : ℕ) (j : Fin 128) : 128 * (c % 10) + j.val < 1280 := by
  have := Nat.mod_lt c (show 0 < 10 by decide)
  omega

theorem lt_w1 (n : ℕ) (j : Fin 512) : 512 * (n % 10) + j.val < 5120 := by
  have := Nat.mod_lt n (show 0 < 10 by decide)
  omega

theorem lt_w2 (n : ℕ) (j : Fin 512) : 512 * (n % 4) + j.val < 2048 := by
  have := Nat.mod_lt n (show 0 < 4 by decide)
  omega

/-- The body's loads, as entries of the input blocks: `X c` is lane tile `c` of the activations. -/
def blockLoads (X : ℕ → Vec F S1024x128 .bf16) (x10 : Vec F S1x1280 .f32) (x11 : Vec F S5120x5120 .fp8e4m3) (x12 : Vec F S1x5120 .f32) (x13 : Vec F S1x5120 .f32) (x14 : Vec F S5120x2048 .fp8e4m3) (x15 : Vec F S1x2048 .f32) (x16 : Vec F S1x2048 .f32) : Loads F where
  raw q c := fun j => X c (ix2 (n0 := 1024) (n1 := 128) ⟨4 * (j 0).val + 2 * (q % 2) + (j 1).val, lt_pairRow q j⟩ (j 2))
  gain c := fun j => x10 (ix2 (n0 := 1) (n1 := 1280) (j 0) ⟨128 * (c % 10) + (j 1).val, lt_gain c (j 1)⟩)
  w1 n := fun j => x11 (ix2 (n0 := 5120) (n1 := 5120) (j 0) ⟨512 * (n % 10) + (j 1).val, lt_w1 n (j 1)⟩)
  s1 n := fun j => x12 (ix2 (n0 := 1) (n1 := 5120) (j 0) ⟨512 * (n % 10) + (j 1).val, lt_w1 n (j 1)⟩)
  b1 n := fun j => x13 (ix2 (n0 := 1) (n1 := 5120) (j 0) ⟨512 * (n % 10) + (j 1).val, lt_w1 n (j 1)⟩)
  w2 n := fun j => x14 (ix2 (n0 := 5120) (n1 := 2048) (j 0) ⟨512 * (n % 4) + (j 1).val, lt_w2 n (j 1)⟩)
  s2 n := fun j => x15 (ix2 (n0 := 1) (n1 := 2048) (j 0) ⟨512 * (n % 4) + (j 1).val, lt_w2 n (j 1)⟩)
  b2 n := fun j => x16 (ix2 (n0 := 1) (n1 := 2048) (j 0) ⟨512 * (n % 4) + (j 1).val, lt_w2 n (j 1)⟩)

/-- The ten lane tiles of the activations, by number. -/
def lanes (x0 : Vec F S1024x128 .bf16) (x1 : Vec F S1024x128 .bf16) (x2 : Vec F S1024x128 .bf16) (x3 : Vec F S1024x128 .bf16) (x4 : Vec F S1024x128 .bf16) (x5 : Vec F S1024x128 .bf16) (x6 : Vec F S1024x128 .bf16) (x7 : Vec F S1024x128 .bf16) (x8 : Vec F S1024x128 .bf16) (x9 : Vec F S1024x128 .bf16) : ℕ → Vec F S1024x128 .bf16 := fun c =>
  match c with
    | 0 => x0
    | 1 => x1
    | 2 => x2
    | 3 => x3
    | 4 => x4
    | 5 => x5
    | 6 => x6
    | 7 => x7
    | 8 => x8
    | _ => x9

theorem loads_eq (arg1 : Memref sig .tc .vmem S1024x128 .bf16) (harg1 : arg1.IsWhole) (arg2 : Memref sig .tc .vmem S1024x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S1024x128 .bf16) (harg9 : arg9.IsWhole) (arg10 : Memref sig .tc .vmem S1024x128 .bf16) (harg10 : arg10.IsWhole) (arg11 : Memref sig .tc .vmem S1x1280 .f32) (harg11 : arg11.IsWhole) (arg12 : Memref sig .tc .vmem S5120x5120 .fp8e4m3) (harg12 : arg12.IsWhole) (arg13 : Memref sig .tc .vmem S1x5120 .f32) (harg13 : arg13.IsWhole) (arg14 : Memref sig .tc .vmem S1x5120 .f32) (harg14 : arg14.IsWhole) (arg15 : Memref sig .tc .vmem S5120x2048 .fp8e4m3) (harg15 : arg15.IsWhole) (arg16 : Memref sig .tc .vmem S1x2048 .f32) (harg16 : arg16.IsWhole) (arg17 : Memref sig .tc .vmem S1x2048 .f32) (harg17 : arg17.IsWhole) (x0 : Vec F S1024x128 .bf16) (x1 : Vec F S1024x128 .bf16) (x2 : Vec F S1024x128 .bf16) (x3 : Vec F S1024x128 .bf16) (x4 : Vec F S1024x128 .bf16) (x5 : Vec F S1024x128 .bf16) (x6 : Vec F S1024x128 .bf16) (x7 : Vec F S1024x128 .bf16) (x8 : Vec F S1024x128 .bf16) (x9 : Vec F S1024x128 .bf16) (x10 : Vec F S1x1280 .f32) (x11 : Vec F S5120x5120 .fp8e4m3) (x12 : Vec F S1x5120 .f32) (x13 : Vec F S1x5120 .f32) (x14 : Vec F S5120x2048 .fp8e4m3) (x15 : Vec F S1x2048 .f32) (x16 : Vec F S1x2048 .f32) :
    loads arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 x14 x15 x16 = blockLoads (lanes x0 x1 x2 x3 x4 x5 x6 x7 x8 x9) x10 x11 x12 x13 x14 x15 x16 := by
  have hraw : (loads arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 x14 x15 x16).raw = fun q c => fun j => lanes x0 x1 x2 x3 x4 x5 x6 x7 x8 x9 c
      (ix2 (n0 := 1024) (n1 := 128) ⟨4 * (j 0).val + 2 * (q % 2) + (j 1).val, lt_pairRow q j⟩ (j 2)) := by
    funext q c
    show (match c with
    | 0 => rawLoad q arg1 harg1 x0
    | 1 => rawLoad q arg2 harg2 x1
    | 2 => rawLoad q arg3 harg3 x2
    | 3 => rawLoad q arg4 harg4 x3
    | 4 => rawLoad q arg5 harg5 x4
    | 5 => rawLoad q arg6 harg6 x5
    | 6 => rawLoad q arg7 harg7 x6
    | 7 => rawLoad q arg8 harg8 x7
    | 8 => rawLoad q arg9 harg9 x8
    | _ => rawLoad q arg10 harg10 x9) = _
    unfold lanes
    split <;> exact rawLoad_eq ..
  rw [blockLoads, ← hraw, loads]
  congr 1
  · funext c; exact colLoad_eq harg11 x10 _ _ (lt_gain c)
  · funext n; exact colLoad_eq harg12 x11 _ _ (lt_w1 n)
  · funext n; exact colLoad_eq harg13 x12 _ _ (lt_w1 n)
  · funext n; exact colLoad_eq harg14 x13 _ _ (lt_w1 n)
  · funext n; exact colLoad_eq harg15 x14 _ _ (lt_w2 n)
  · funext n; exact colLoad_eq harg16 x15 _ _ (lt_w2 n)
  · funext n; exact colLoad_eq harg17 x16 _ _ (lt_w2 n)

/-! ## The results' blocks -/

variable (c : Dev nD) (i : grid0.Coords) (arg1 : Memref sig .tc .vmem S1024x128 .bf16) (harg1 : arg1.IsWhole) (arg2 : Memref sig .tc .vmem S1024x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S1024x128 .bf16) (harg9 : arg9.IsWhole) (arg10 : Memref sig .tc .vmem S1024x128 .bf16) (harg10 : arg10.IsWhole) (arg11 : Memref sig .tc .vmem S1x1280 .f32) (harg11 : arg11.IsWhole) (arg12 : Memref sig .tc .vmem S5120x5120 .fp8e4m3) (harg12 : arg12.IsWhole) (arg13 : Memref sig .tc .vmem S1x5120 .f32) (harg13 : arg13.IsWhole) (arg14 : Memref sig .tc .vmem S1x5120 .f32) (harg14 : arg14.IsWhole) (arg15 : Memref sig .tc .vmem S5120x2048 .fp8e4m3) (harg15 : arg15.IsWhole) (arg16 : Memref sig .tc .vmem S1x2048 .f32) (harg16 : arg16.IsWhole) (arg17 : Memref sig .tc .vmem S1x2048 .f32) (harg17 : arg17.IsWhole) (arg18 : Memref sig .tc .vmem S256x5120 .fp8e4m3) (harg18 : arg18.IsWhole) (arg19 : Memref sig .tc .vmem S1x1x256 .f32) (harg19 : arg19.IsWhole) (arg20 : Memref sig .tc .vmem S256x5120 .fp8e4m3) (harg20 : arg20.IsWhole) (arg21 : Memref sig .tc .vmem S1x1x256 .f32) (harg21 : arg21.IsWhole) (arg22 : Memref sig .tc .vmem S4096x128 .f32) (harg22 : arg22.IsWhole) (arg23 : Memref sig .tc .vmem S256x5120 .f32) (harg23 : arg23.IsWhole) (arg24 : Memref sig .tc .vmem S256x5120 .f32) (harg24 : arg24.IsWhole)
    (x0 : Vec F S1024x128 .bf16) (x1 : Vec F S1024x128 .bf16) (x2 : Vec F S1024x128 .bf16) (x3 : Vec F S1024x128 .bf16) (x4 : Vec F S1024x128 .bf16) (x5 : Vec F S1024x128 .bf16) (x6 : Vec F S1024x128 .bf16) (x7 : Vec F S1024x128 .bf16) (x8 : Vec F S1024x128 .bf16) (x9 : Vec F S1024x128 .bf16) (x10 : Vec F S1x1280 .f32) (x11 : Vec F S5120x5120 .fp8e4m3) (x12 : Vec F S1x5120 .f32) (x13 : Vec F S1x5120 .f32) (x14 : Vec F S5120x2048 .fp8e4m3) (x15 : Vec F S1x2048 .f32) (x16 : Vec F S1x2048 .f32)

theorem out_17 : out0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 =
    codes1 (blockLoads (lanes x0 x1 x2 x3 x4 x5 x6 x7 x8 x9) x10 x11 x12 x13 x14 x15 x16) := by
  rw [out0_A_17, View.read_writes_junk_eq_canon, run_m, loads_eq]
  exact canon_m _ _

theorem out_18 : out0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 =
    scaleRow (mScale (blockLoads (lanes x0 x1 x2 x3 x4 x5 x6 x7 x8 x9) x10 x11 x12 x13 x14 x15 x16)) := by
  rw [out0_A_18, View.read_writes_junk_eq_canon, run_ms, loads_eq]
  exact View.canon_unit_zero zero3 _ _

theorem out_19 : out0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 =
    codes2 (blockLoads (lanes x0 x1 x2 x3 x4 x5 x6 x7 x8 x9) x10 x11 x12 x13 x14 x15 x16) := by
  rw [out0_A_19, View.read_writes_junk_eq_canon, run_gc, mRead_eq, loads_eq]
  exact canon_gc _ _

theorem out_20 : out0_A_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 =
    scaleRow (gScale (blockLoads (lanes x0 x1 x2 x3 x4 x5 x6 x7 x8 x9) x10 x11 x12 x13 x14 x15 x16) (codes1 (blockLoads (lanes x0 x1 x2 x3 x4 x5 x6 x7 x8 x9) x10 x11 x12 x13 x14 x15 x16))) := by
  rw [out0_A_20, View.read_writes_junk_eq_canon, run_gs, mRead_eq, loads_eq]
  exact View.canon_unit_zero zero3 _ _

theorem out_21 : out0_A_21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 =
    merged (blockLoads (lanes x0 x1 x2 x3 x4 x5 x6 x7 x8 x9) x10 x11 x12 x13 x14 x15 x16) := by
  rw [out0_A_21, View.read_writes_junk_eq_canon, run_mg, mRead_eq, gcRead_eq, loads_eq]
  exact canon_mg _

end Cert.KernelIdeal.Body
-- ==== Proof.Spec.lean ====
/- The mathematics of the merger on rows: RMS normalisation, quantisation of a row to eight bits with one scale, the two matrix
   products with their row and column scales and biases, the GELU between them. Both programs are proved to compute these functions;
   nothing here knows of tiles, blocks or memory. -/
module

public import Idealize.ShloMosaic.Lib.Pointwise

@[expose] public section

noncomputable section

namespace Merger

open Idealize.ShloMosaic

/-! ## One row -/

/-- The reciprocal root of a row's mean square, a small constant added under the root. -/
def invRms (x : Fin 1280 → EReal) : EReal :=
  Ideal.rsqrt (Ideal.div (∑ k, x k * x k) (Ideal.ofBits .f32 0x44A00000#32) + Ideal.ofBits .f32 0x358637BD#32)

/-- The largest absolute value of a row (the bits of minus infinity if the row is empty). -/
def amax {n : ℕ} (f : Fin n → EReal) : EReal :=
  Finset.univ.fold max (Ideal.ofBits .f32 0xFF800000#32) fun k => FloatOps.absf (F := Ideal) (φ := .f32) (f k)

/-- The scale of a row with largest absolute value `a`: `a / 448`, or one for a row of zeros. -/
def scale (a : EReal) : EReal := if 0 < a then Ideal.div a (Ideal.ofBits .f32 0x43E00000#32) else 1

/-- The code of `x` at scale `s`: `x / s` clipped to ±448. -/
def code (s x : EReal) : EReal :=
  min (Ideal.ofBits .f32 0x43E00000#32) (max (Ideal.ofBits .f32 0xC3E00000#32) (Ideal.div x s))

/-- Codes times a column of weights, scaled by the row's scale and the column's, the bias added. -/
def affine {n : ℕ} (q : Fin n → EReal) (s : EReal) (w : Fin n → EReal) (sc b : EReal) : EReal :=
  (∑ k, q k * w k) * s * sc + b

/-- The exact GELU, by the error function. -/
def gelu (z : EReal) : EReal :=
  Ideal.ofBits .f32 0x3F000000#32 * z * (1 + FloatOps.erf (F := Ideal) (φ := .f32) (z * Ideal.ofBits .f32 0x3F3504F3#32))

/-! ## The whole problem -/

/-- The merger's arguments by row and column. -/
structure Args where
  x : Fin 9216 → Fin 1280 → EReal
  gain : Fin 1280 → EReal
  w1 : Fin 5120 → Fin 5120 → EReal
  s1 : Fin 5120 → EReal
  b1 : Fin 5120 → EReal
  w2 : Fin 5120 → Fin 2048 → EReal
  s2 : Fin 2048 → EReal
  b2 : Fin 2048 → EReal

variable (A : Args)

theorem lt_row4 (i : Fin 2304) (k : Fin 5120) : i.val * 4 + k.val / 1280 < 9216 := by omega
theorem lt_col4 (k : Fin 5120) : k.val % 1280 < 1280 := by omega

/-- Merged row `i` at column `k`: four normalised rows side by side. -/
def r (i : Fin 2304) (k : Fin 5120) : EReal :=
  A.x ⟨i.val * 4 + k.val / 1280, lt_row4 i k⟩ ⟨k.val % 1280, lt_col4 k⟩ * invRms (A.x ⟨i.val * 4 + k.val / 1280, lt_row4 i k⟩)
    * A.gain ⟨k.val % 1280, lt_col4 k⟩

/-- The scale of merged row `i`. -/
def rScale (i : Fin 2304) : EReal := scale (amax (r A i))
/-- The codes of merged row `i`. -/
def rCode (i : Fin 2304) (k : Fin 5120) : EReal := code (rScale A i) (r A i k)
/-- The hidden layer: GELU of the first product. -/
def hid (i : Fin 2304) (n : Fin 5120) : EReal := gelu (affine (rCode A i) (rScale A i) (fun k => A.w1 k n) (A.s1 n) (A.b1 n))
/-- The scale of hidden row `i`. -/
def hScale (i : Fin 2304) : EReal := scale (amax (hid A i))
/-- The codes of hidden row `i`. -/
def hCode (i : Fin 2304) (k : Fin 5120) : EReal := code (hScale A i) (hid A i k)
/-- The output: the second product. -/
def out (i : Fin 2304) (n : Fin 2048) : EReal := affine (hCode A i) (hScale A i) (fun k => A.w2 k n) (A.s2 n) (A.b2 n)

/-! ## As arrays -/

/-- The problem of eight argument arrays. -/
def ofArrays (a0 : Vec Ideal ⟨2, ![9216, 1280]⟩ .bf16) (a1 : Vec Ideal ⟨1, ![1280]⟩ .f32) (a2 : Vec Ideal ⟨2, ![5120, 5120]⟩ .fp8e4m3)
    (a3 a4 : Vec Ideal ⟨1, ![5120]⟩ .f32) (a5 : Vec Ideal ⟨2, ![5120, 2048]⟩ .fp8e4m3) (a6 a7 : Vec Ideal ⟨1, ![2048]⟩ .f32) : Args where
  x i k := a0 (ix2 i k)
  gain k := a1 (ix1 k)
  w1 k n := a2 (ix2 k n)
  s1 n := a3 (ix1 n)
  b1 n := a4 (ix1 n)
  w2 k n := a5 (ix2 k n)
  s2 n := a6 (ix1 n)
  b2 n := a7 (ix1 n)

/-- A matrix of codes as an array. -/
def codesArr (f : Fin 2304 → Fin 5120 → EReal) : Vec Ideal ⟨2, ![2304, 5120]⟩ .fp8e4m3 := fun y => f (y 0) (y 1)

theorem lt_scaleRow (y : Shape.Idx ⟨3, ![9, 1, 256]⟩) : (y 0).val * 256 + (y 2).val < 2304 := by
  have h0 : (y 0).val < 9 := (y 0).isLt
  have h2 : (y 2).val < 256 := (y 2).isLt
  omega

/-- One scale per row, in nine groups of 256. -/
def scalesArr (f : Fin 2304 → EReal) : Vec Ideal ⟨3, ![9, 1, 256]⟩ .f32 := fun y => f ⟨(y 0).val * 256 + (y 2).val, lt_scaleRow y⟩

theorem scalesArr_at (f : Fin 2304 → EReal) (a : Fin 9) (z : Fin 1) (i : Fin 256) :
    scalesArr f (ix3 a z i) = f ⟨a.val * 256 + i.val, by omega⟩ := rfl

theorem lt_outRow (y : Shape.Idx ⟨2, ![36864, 128]⟩) : (y 0).val / 16 < 2304 := by
  have h0 : (y 0).val < 36864 := (y 0).isLt
  omega

theorem lt_outCol (y : Shape.Idx ⟨2, ![36864, 128]⟩) : (y 0).val % 16 * 128 + (y 1).val < 2048 := by
  have h1 : (y 1).val < 128 := (y 1).isLt
  omega

/-- The output in rows of 128 lanes: each row of 2048 columns is sixteen of them. -/
def outArr (f : Fin 2304 → Fin 2048 → EReal) : Vec Ideal ⟨2, ![36864, 128]⟩ .f32 :=
  fun y => f ⟨(y 0).val / 16, lt_outRow y⟩ ⟨(y 0).val % 16 * 128 + (y 1).val, lt_outCol y⟩

theorem outArr_at (f : Fin 2304 → Fin 2048 → EReal) (i : Fin 36864) (l : Fin 128) :
    outArr f (ix2 i l) = f ⟨i.val / 16, by omega⟩ ⟨i.val % 16 * 128 + l.val, by omega⟩ := rfl

end Merger

end

end
-- ==== Proof.Ideal.Rows.lean ====
/- One block of the kernel over the extended reals: with input blocks that are grid point `t`'s part of the problem, the body's
   tiles are the rows `256 t + i` of the row functions of `Merger`. -/
module

public import proofs.«01_k».proof.Proof.Ideal.Reads
public import proofs.«01_k».proof.Proof.Spec

@[expose] public section

set_option maxRecDepth 16384

noncomputable section

namespace Cert.KernelIdeal.Rows

open Cert.KernelIdeal Cert.KernelIdeal.Gen Cert.KernelIdeal.Tiles Cert.KernelIdeal.Body
open Idealize.ShloMosaic Idealize.ShloMosaic.TcCoe

/-! ## Re-blocking sums and maxima -/

/-- A sum over 1280 entries, lane by lane of ten tiles of 128. -/
theorem sum_tiles (f : Fin 1280 → EReal) (t : ℕ → Fin 128 → EReal)
    (h : ∀ c l (hc : 128 * c + l.val < 1280), t c l = f ⟨128 * c + l.val, hc⟩) :
    ∑ l, ∑ c ∈ Finset.range 10, t c l = ∑ k, f k := by
  have e : ∀ l : Fin 128, ∑ c ∈ Finset.range 10, t c l = ∑ c : Fin 10, f (finProdFinEquiv (c, l)) := fun l => by
    rw [← Fin.sum_univ_eq_sum_range (fun c => t c l) 10]
    refine Finset.sum_congr rfl fun c _ => ?_
    rw [h c.val l (by omega)]
    refine congrArg f (Fin.ext ?_)
    show 128 * c.val + l.val = l.val + 128 * c.val
    omega
  simp only [e]
  rw [Finset.sum_comm, ← Fintype.sum_prod_type']
  exact Equiv.sum_comp (finProdFinEquiv (m := 10) (n := 128)) f

/-- A maximum over 5120 entries, lane by lane of forty tiles of 128, each lane's maximum taken first. -/
theorem fold_max_tiles (b : EReal) (f : Fin 5120 → EReal) (t : ℕ → Fin 128 → EReal) (M : Fin 128 → EReal)
    (hM : ∀ l y, M l ≤ y ↔ ∀ j ≤ 39, t j l ≤ y)
    (h : ∀ j l (hj : 128 * j + l.val < 5120), t j l = f ⟨128 * j + l.val, hj⟩) :
    Finset.univ.fold max b M = Finset.univ.fold max b f := by
  refine eq_of_forall_ge_iff fun y => ?_
  simp only [Finset.fold_max_le, Finset.mem_univ, true_implies, hM]
  refine and_congr_right fun _ => ⟨fun H k => ?_, fun H l j hj => ?_⟩
  · have := H ⟨k.val % 128, Nat.mod_lt _ (by decide)⟩ (k.val / 128) (by omega)
    rw [h _ _ (by show 128 * (k.val / 128) + k.val % 128 < 5120; omega)] at this
    refine le_of_eq_of_le (congrArg f (Fin.ext ?_)) this
    show k.val = 128 * (k.val / 128) + k.val % 128
    omega
  · rw [h j l (by omega)]
    exact H _

/-! ## The operations of the body, at an entry -/

theorem xT_apply (L : Loads Ideal) (p c : ℕ) (i : Fin 256) (l : Fin 128) :
    xT L p c (ix2 i l) = L.raw (p / 2) c (ix3 i ⟨p % 2, Nat.mod_lt p (by decide)⟩ l) := by
  pointwise [xT, wide]

theorem sqT_apply (L : Loads Ideal) (p n : ℕ) (i : Fin 256) (l : Fin 128) :
    sqT L p n (ix2 i l) = ∑ c ∈ Finset.range (n + 1), xT L p c (ix2 i l) * xT L p c (ix2 i l) := by
  induction n with
  | zero => rw [Finset.sum_range_one]; rfl
  | succ n ih => rw [Finset.sum_range_succ, ← ih]; rfl

theorem inv_apply (L : Loads Ideal) (p : ℕ) (i : Fin 256) :
    Tiles.inv L p (ix2 i 0) = Ideal.rsqrt
      (Ideal.div (∑ l, sqT L p 9 (ix2 i l)) (Ideal.ofBits .f32 0x44A00000#32) + Ideal.ofBits .f32 0x358637BD#32) := by
  pointwise [Tiles.inv]

theorem rT_apply (L : Loads Ideal) (j : ℕ) (i : Fin 256) (l : Fin 128) :
    rT L j (ix2 i l) = xT L (j / 10) (j % 10) (ix2 i l) * Tiles.inv L (j / 10) (ix2 i 0) * L.gain (j % 10) (ix2 0 l) := by
  pointwise [rT]

theorem maxT_le (t : ℕ → FVec Ideal S256x128 .f32) (n : ℕ) (i : Fin 256) (l : Fin 128) (y : EReal) :
    maxT t n (ix2 i l) ≤ y ↔ ∀ j ≤ n, t j (ix2 i l) ≤ y := by
  induction n with
  | zero => simp [maxT]
  | succ n ih =>
    have e : maxT t (n + 1) (ix2 i l) = max (maxT t n (ix2 i l)) (t (n + 1) (ix2 i l)) := rfl
    rw [e, max_le_iff, ih]
    refine ⟨fun ⟨h, h'⟩ j hj => ?_, fun h => ⟨fun j hj => h j (by omega), h _ le_rfl⟩⟩
    rcases Nat.lt_or_ge j (n + 1) with hl | hg
    · exact h j (by omega)
    · obtain rfl : j = n + 1 := by omega
      exact h'

theorem scaleOf_apply (a : FVec Ideal S256x1 .f32) (i : Fin 256) : scaleOf a (ix2 i 0) = Merger.scale (a (ix2 i 0)) := by
  pointwise [scaleOf, Merger.scale]

theorem rowMax_apply (a : FVec Ideal S256x128 .f32) (i : Fin 256) :
    rowMax a (ix2 i 0) = Finset.univ.fold max (Ideal.ofBits .f32 0xFF800000#32) fun l => a (ix2 i l) := by
  pointwise [rowMax]

theorem scaleRow_apply (s : FVec Ideal S256x1 .f32) (a b : Fin 1) (i : Fin 256) : scaleRow s (ix3 a b i) = s (ix2 i 0) := by
  pointwise [scaleRow]

theorem quant128_apply (s : FVec Ideal S256x1 .f32) (v : FVec Ideal S256x128 .f32) (i : Fin 256) (l : Fin 128) :
    quant128 s v (ix2 i l) = Merger.code (s (ix2 i 0)) (v (ix2 i l)) := by
  pointwise [quant128, Merger.code]

theorem quant512_apply (s : FVec Ideal S256x1 .f32) (v : FVec Ideal S256x512 .f32) (i : Fin 256) (n : Fin 512) :
    quant512 s v (ix2 i n) = Merger.code (s (ix2 i 0)) (v (ix2 i n)) := by
  pointwise [quant512, Merger.code]

theorem lane4_apply (c : ℕ) (v : FVec Ideal S256x512 .f32) (i : Fin 256) (l : Fin 128) :
    lane4 c v (ix2 i l) = v (ix2 i ⟨128 * (c % 4) + l.val, by omega⟩) := by
  pointwise [lane4]

theorem affine_apply (s : FVec Ideal S256x1 .f32) (q : Vec Ideal S256x5120 .fp8e4m3) (w : Vec Ideal S5120x512 .fp8e4m3)
    (sc b : Vec Ideal S1x512 .f32) (i : Fin 256) (n : Fin 512) :
    Tiles.affine s q w sc b (ix2 i n)
      = Merger.affine (fun k => q (ix2 i k)) (s (ix2 i 0)) (fun k => w (ix2 k n)) (sc (ix2 0 n)) (b (ix2 0 n)) := by
  pointwise [Tiles.affine, Merger.affine]

theorem gelu_apply (z : FVec Ideal S256x512 .f32) (i : Fin 256) (n : Fin 512) :
    Tiles.gelu z (ix2 i n) = Merger.gelu (z (ix2 i n)) := by
  pointwise [Tiles.gelu, Merger.gelu]

/-- Forty tiles of 128 lanes that together are the row `f`: the scale the body takes of their running maximum is the row's. -/
theorem scale_tiles (t : ℕ → FVec Ideal S256x128 .f32) (i : Fin 256) (f : Fin 5120 → EReal)
    (h : ∀ j l (hj : 128 * j + l.val < 5120),
      t j (ix2 i l) = FloatOps.absf (F := Ideal) (φ := .f32) (f ⟨128 * j + l.val, hj⟩)) :
    scaleOf (rowMax (maxT t 39)) (ix2 i 0) = Merger.scale (Merger.amax f) := by
  rw [scaleOf_apply, rowMax_apply]
  exact congrArg Merger.scale (fold_max_tiles _ _ (fun j l => t j (ix2 i l)) _ (fun l y => maxT_le t 39 i l y) h)

/-! ## The block of one grid point -/

variable (A : Merger.Args) (t : Fin 9) (L : Loads Ideal)

theorem lt_blkRow (i : Fin 256) : 256 * t.val + i.val < 2304 := by omega

/-- Row `i` of block `t`. -/
abbrev row (i : Fin 256) : Fin 2304 := ⟨256 * t.val + i.val, lt_blkRow t i⟩

/-- The loads are grid point `t`'s part of the problem. -/
structure Holds : Prop where
  raw : ∀ q c (i : Fin 256) (a : Fin 2) (l : Fin 128) (hr : 1024 * t.val + (4 * i.val + 2 * (q % 2) + a.val) < 9216)
    (hc : 128 * c + l.val < 1280), L.raw q c (ix3 i a l) = A.x ⟨1024 * t.val + (4 * i.val + 2 * (q % 2) + a.val), hr⟩ ⟨128 * c + l.val, hc⟩
  gain : ∀ c (l : Fin 128) (hc : 128 * c + l.val < 1280), L.gain c (ix2 0 l) = A.gain ⟨128 * c + l.val, hc⟩
  w1 : ∀ n k (l : Fin 512) (hn : 512 * n + l.val < 5120), L.w1 n (ix2 k l) = A.w1 k ⟨512 * n + l.val, hn⟩
  s1 : ∀ n (l : Fin 512) (hn : 512 * n + l.val < 5120), L.s1 n (ix2 0 l) = A.s1 ⟨512 * n + l.val, hn⟩
  b1 : ∀ n (l : Fin 512) (hn : 512 * n + l.val < 5120), L.b1 n (ix2 0 l) = A.b1 ⟨512 * n + l.val, hn⟩
  w2 : ∀ n k (l : Fin 512) (hn : 512 * n + l.val < 2048), L.w2 n (ix2 k l) = A.w2 k ⟨512 * n + l.val, hn⟩
  s2 : ∀ n (l : Fin 512) (hn : 512 * n + l.val < 2048), L.s2 n (ix2 0 l) = A.s2 ⟨512 * n + l.val, hn⟩
  b2 : ∀ n (l : Fin 512) (hn : 512 * n + l.val < 2048), L.b2 n (ix2 0 l) = A.b2 ⟨512 * n + l.val, hn⟩

variable {A t L} (H : Holds A t L)
include H

theorem xT_at (p c : ℕ) (i : Fin 256) (l : Fin 128) (hp : p < 4) (hr : 4 * (256 * t.val + i.val) + p < 9216)
    (hc : 128 * c + l.val < 1280) :
    xT L p c (ix2 i l) = A.x ⟨4 * (256 * t.val + i.val) + p, hr⟩ ⟨128 * c + l.val, hc⟩ := by
  rw [xT_apply, H.raw _ _ _ _ _ (by show 1024 * t.val + (4 * i.val + 2 * (p / 2 % 2) + p % 2) < 9216; omega) hc]
  refine congrArg (fun z => A.x z _) (Fin.ext ?_)
  show 1024 * t.val + (4 * i.val + 2 * (p / 2 % 2) + p % 2) = 4 * (256 * t.val + i.val) + p
  omega

theorem inv_at (p : ℕ) (i : Fin 256) (hp : p < 4) (hr : 4 * (256 * t.val + i.val) + p < 9216) :
    Tiles.inv L p (ix2 i 0) = Merger.invRms (A.x ⟨4 * (256 * t.val + i.val) + p, hr⟩) := by
  rw [inv_apply, Merger.invRms]
  simp only [sqT_apply]
  rw [sum_tiles (fun k => A.x ⟨4 * (256 * t.val + i.val) + p, hr⟩ k * A.x ⟨4 * (256 * t.val + i.val) + p, hr⟩ k) _
    fun c l hc => by rw [xT_at H p c i l hp hr hc]]

theorem rT_at (j : ℕ) (i : Fin 256) (l : Fin 128) (hj : 128 * j + l.val < 5120) :
    rT L j (ix2 i l) = Merger.r A (row t i) ⟨128 * j + l.val, hj⟩ := by
  have hp : j / 10 < 4 := by omega
  have hc : 128 * (j % 10) + l.val < 1280 := by omega
  have hr : 4 * (256 * t.val + i.val) + j / 10 < 9216 := by omega
  rw [rT_apply, xT_at H _ _ i l hp hr hc, inv_at H _ i hp hr, H.gain _ _ hc, Merger.r]
  have e1 : (⟨4 * (256 * t.val + i.val) + j / 10, hr⟩ : Fin 9216)
      = ⟨(row t i).val * 4 + (128 * j + l.val) / 1280, Merger.lt_row4 (row t i) ⟨128 * j + l.val, hj⟩⟩ := Fin.ext (by
    show 4 * (256 * t.val + i.val) + j / 10 = (256 * t.val + i.val) * 4 + (128 * j + l.val) / 1280
    omega)
  have e2 : (⟨128 * (j % 10) + l.val, hc⟩ : Fin 1280) = ⟨(128 * j + l.val) % 1280, Merger.lt_col4 ⟨128 * j + l.val, hj⟩⟩ :=
    Fin.ext (by show 128 * (j % 10) + l.val = (128 * j + l.val) % 1280; omega)
  rw [e1, e2]

theorem mScale_at (i : Fin 256) : mScale L (ix2 i 0) = Merger.rScale A (row t i) :=
  scale_tiles _ i _ fun j l hj => congrArg (FloatOps.absf (F := Ideal) (φ := .f32)) (rT_at H j i l hj)

theorem codes1_at (i : Fin 256) (k : Fin 5120) : codes1 L (ix2 i k) = Merger.rCode A (row t i) k := by
  have e : codes1 L (ix2 i k)
      = quant128 (mScale L) (rT L (k.val / 128)) (ix2 i ⟨k.val % 128, Nat.mod_lt _ (by decide)⟩) := rfl
  have hk : 128 * (k.val / 128) + k.val % 128 < 5120 := by omega
  rw [e, quant128_apply, mScale_at H, rT_at H _ _ _ hk, Merger.rCode]
  refine congrArg (fun z => Merger.code _ (Merger.r A _ z)) (Fin.ext ?_)
  show 128 * (k.val / 128) + k.val % 128 = k.val
  omega

theorem gT_at (n : ℕ) (i : Fin 256) (l : Fin 512) (hn : 512 * n + l.val < 5120) :
    gT L (codes1 L) n (ix2 i l) = Merger.hid A (row t i) ⟨512 * n + l.val, hn⟩ := by
  rw [gT, gelu_apply, affine_apply, mScale_at H, H.s1 _ _ hn, H.b1 _ _ hn, Merger.hid]
  simp only [codes1_at H, H.w1 _ _ _ hn]

theorem gScale_at (i : Fin 256) : gScale L (codes1 L) (ix2 i 0) = Merger.hScale A (row t i) := by
  refine scale_tiles _ i _ fun j l hj => ?_
  have hn : 512 * (j / 4) + (128 * (j % 4 % 4) + l.val) < 5120 := by omega
  rw [lane4_apply]
  refine congrArg (FloatOps.absf (F := Ideal) (φ := .f32)) ((gT_at H (j / 4) i _ hn).trans ?_)
  refine congrArg (Merger.hid A _) (Fin.ext ?_)
  show 512 * (j / 4) + (128 * (j % 4 % 4) + l.val) = 128 * j + l.val
  omega

theorem codes2_at (i : Fin 256) (k : Fin 5120) : codes2 L (ix2 i k) = Merger.hCode A (row t i) k := by
  have e : codes2 L (ix2 i k) = quant512 (gScale L (codes1 L)) (gT L (codes1 L) (k.val / 512))
      (ix2 i ⟨k.val % 512, Nat.mod_lt _ (by decide)⟩) := rfl
  have hk : 512 * (k.val / 512) + k.val % 512 < 5120 := by omega
  rw [e, quant512_apply, gScale_at H, gT_at H _ _ _ hk, Merger.hCode]
  refine congrArg (fun z => Merger.code _ (Merger.hid A _ z)) (Fin.ext ?_)
  show 512 * (k.val / 512) + k.val % 512 = k.val
  omega

theorem outT_at (n : ℕ) (i : Fin 256) (l : Fin 512) (hn : 512 * n + l.val < 2048) :
    Tiles.affine (gScale L (codes1 L)) (codes2 L) (L.w2 n) (L.s2 n) (L.b2 n) (ix2 i l)
      = Merger.out A (row t i) ⟨512 * n + l.val, hn⟩ := by
  rw [affine_apply, gScale_at H, H.s2 _ _ hn, H.b2 _ _ hn, Merger.out]
  simp only [codes2_at H, H.w2 _ _ _ hn]

theorem mgT_at (j : ℕ) (i : Fin 256) (l : Fin 128) (hj : 128 * j + l.val < 2048) :
    mgT L (gScale L (codes1 L)) (codes2 L) j (ix2 i l) = Merger.out A (row t i) ⟨128 * j + l.val, hj⟩ := by
  have hn : 512 * (j / 4) + (128 * (j % 4 % 4) + l.val) < 2048 := by omega
  rw [mgT, lane4_apply]
  refine (outT_at H (j / 4) i _ hn).trans (congrArg (Merger.out A _) (Fin.ext ?_))
  show 512 * (j / 4) + (128 * (j % 4 % 4) + l.val) = 128 * j + l.val
  omega

omit H in
theorem merged_apply (y : Fin 4096) (l : Fin 128) :
    merged L (ix2 y l) = mgT L (gScale L (codes1 L)) (codes2 L) (y.val % 16) (ix2 ⟨y.val / 16, by omega⟩ l) := rfl

theorem merged_at (y : Fin 4096) (l : Fin 128) :
    merged L (ix2 y l) = Merger.out A (row t ⟨y.val / 16, by omega⟩) ⟨128 * (y.val % 16) + l.val, by omega⟩ := by
  rw [merged_apply, mgT_at H]

end Cert.KernelIdeal.Rows

end

end
-- ==== Proof.Ideal.Value.lean ====
/- The kernel's run over the extended reals: its five result arrays are the row functions of `Merger` of its arguments. -/
module

public import proofs.«01_k».proof.Proof.Ideal.Loads
public import proofs.«01_k».proof.Proof.Ideal.Rows
public import Idealize.ShloMosaic.Lib.Pipeline.ValueKit
public import Idealize.ShloMosaic.Lib.Claim

@[expose] public section

set_option maxRecDepth 16384

noncomputable section

namespace Cert.KernelIdeal.Rows

open Cert.KernelIdeal Cert.KernelIdeal.Gen Cert.KernelIdeal.Tiles Cert.KernelIdeal.Body
open Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

/-- The problem stated by the argument arrays in memory. -/
def args : Merger.Args :=
  Merger.ofArrays (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-! ## The arrays the region finds -/

theorem arg0_at (i : Fin 9216) (k : Fin 1280) : V m c main_arg0 (ix2 i k) = (args m c).x i k := by
  rw [Gen.V_main_arg0]; rfl

theorem w1_at (k n : Fin 5120) : V m c main_arg2 (ix2 k n) = (args m c).w1 k n := by
  rw [Gen.V_main_arg2]; rfl

theorem w2_at (k : Fin 5120) (n : Fin 2048) : V m c main_arg5 (ix2 k n) = (args m c).w2 k n := by
  rw [Gen.V_main_arg5]; rfl

theorem gain_at (k : Fin 1280) : V m c main_v0 (ix2 0 k) = (args m c).gain k := by
  entry_read
  pointwise [args, Merger.ofArrays]

theorem s1_at (n : Fin 5120) : V m c main_v1 (ix2 0 n) = (args m c).s1 n := by
  entry_read
  pointwise [args, Merger.ofArrays]

theorem b1_at (n : Fin 5120) : V m c main_v2 (ix2 0 n) = (args m c).b1 n := by
  entry_read
  pointwise [args, Merger.ofArrays]

theorem s2_at (n : Fin 2048) : V m c main_v3 (ix2 0 n) = (args m c).s2 n := by
  entry_read
  pointwise [args, Merger.ofArrays]

theorem b2_at (n : Fin 2048) : V m c main_v4 (ix2 0 n) = (args m c).b2 n := by
  entry_read
  pointwise [args, Merger.ofArrays]

/-! ## The input blocks of a grid point -/

theorem iblk10_at (t : Fin cfg0.N) (k : Fin 1280) : iblk m c 10 t (ix2 0 k) = (args m c).gain k := by
  have e : ∀ t : Fin cfg0.N, win0_10.index t = ![0, 0] := (by decide +kernel : ∀ t : Fin grid0.N, _)
  refine Eq.trans ?_ (gain_at m c k)
  blk_simp [iblk]
  refine congrArg (V m c main_v0) ?_
  blk_ext [e]

theorem iblk11_at (t : Fin cfg0.N) (k n : Fin 5120) : iblk m c 11 t (ix2 k n) = (args m c).w1 k n := by
  have e : ∀ t : Fin cfg0.N, win0_11.index t = ![0, 0] := (by decide +kernel : ∀ t : Fin grid0.N, _)
  refine Eq.trans ?_ (w1_at m c k n)
  blk_simp [iblk]
  refine congrArg (V m c main_arg2) ?_
  blk_ext [e]

theorem iblk12_at (t : Fin cfg0.N) (n : Fin 5120) : iblk m c 12 t (ix2 0 n) = (args m c).s1 n := by
  have e : ∀ t : Fin cfg0.N, win0_12.index t = ![0, 0] := (by decide +kernel : ∀ t : Fin grid0.N, _)
  refine Eq.trans ?_ (s1_at m c n)
  blk_simp [iblk]
  refine congrArg (V m c main_v1) ?_
  blk_ext [e]

theorem iblk13_at (t : Fin cfg0.N) (n : Fin 5120) : iblk m c 13 t (ix2 0 n) = (args m c).b1 n := by
  have e : ∀ t : Fin cfg0.N, win0_13.index t = ![0, 0] := (by decide +kernel : ∀ t : Fin grid0.N, _)
  refine Eq.trans ?_ (b1_at m c n)
  blk_simp [iblk]
  refine congrArg (V m c main_v2) ?_
  blk_ext [e]

theorem iblk14_at (t : Fin cfg0.N) (k : Fin 5120) (n : Fin 2048) : iblk m c 14 t (ix2 k n) = (args m c).w2 k n := by
  have e : ∀ t : Fin cfg0.N, win0_14.index t = ![0, 0] := (by decide +kernel : ∀ t : Fin grid0.N, _)
  refine Eq.trans ?_ (w2_at m c k n)
  blk_simp [iblk]
  refine congrArg (V m c main_arg5) ?_
  blk_ext [e]

theorem iblk15_at (t : Fin cfg0.N) (n : Fin 2048) : iblk m c 15 t (ix2 0 n) = (args m c).s2 n := by
  have e : ∀ t : Fin cfg0.N, win0_15.index t = ![0, 0] := (by decide +kernel : ∀ t : Fin grid0.N, _)
  refine Eq.trans ?_ (s2_at m c n)
  blk_simp [iblk]
  refine congrArg (V m c main_v3) ?_
  blk_ext [e]

theorem iblk16_at (t : Fin cfg0.N) (n : Fin 2048) : iblk m c 16 t (ix2 0 n) = (args m c).b2 n := by
  have e : ∀ t : Fin cfg0.N, win0_16.index t = ![0, 0] := (by decide +kernel : ∀ t : Fin grid0.N, _)
  refine Eq.trans ?_ (b2_at m c n)
  blk_simp [iblk]
  refine congrArg (V m c main_v4) ?_
  blk_ext [e]

/-- Lane tile `w` of the activations' block. -/
theorem lanes_at (t : Fin cfg0.N) (w : ℕ) (i : Fin 1024) (l : Fin 128) (hr : 1024 * t.val + i.val < 9216) (hw : 128 * w + l.val < 1280) :
    lanes (iblk m c 0 t) (iblk m c 1 t) (iblk m c 2 t) (iblk m c 3 t) (iblk m c 4 t) (iblk m c 5 t) (iblk m c 6 t) (iblk m c 7 t) (iblk m c 8 t) (iblk m c 9 t)
      w (ix2 i l) = (args m c).x ⟨1024 * t.val + i.val, hr⟩ ⟨128 * w + l.val, hw⟩ := by
  have e0 : ∀ t : Fin cfg0.N, win0_0.index t = ![t.val, 0] := (by decide +kernel : ∀ t : Fin grid0.N, _)
  have e1 : ∀ t : Fin cfg0.N, win0_1.index t = ![t.val, 1] := (by decide +kernel : ∀ t : Fin grid0.N, _)
  have e2 : ∀ t : Fin cfg0.N, win0_2.index t = ![t.val, 2] := (by decide +kernel : ∀ t : Fin grid0.N, _)
  have e3 : ∀ t : Fin cfg0.N, win0_3.index t = ![t.val, 3] := (by decide +kernel : ∀ t : Fin grid0.N, _)
  have e4 : ∀ t : Fin cfg0.N, win0_4.index t = ![t.val, 4] := (by decide +kernel : ∀ t : Fin grid0.N, _)
  have e5 : ∀ t : Fin cfg0.N, win0_5.index t = ![t.val, 5] := (by decide +kernel : ∀ t : Fin grid0.N, _)
  have e6 : ∀ t : Fin cfg0.N, win0_6.index t = ![t.val, 6] := (by decide +kernel : ∀ t : Fin grid0.N, _)
  have e7 : ∀ t : Fin cfg0.N, win0_7.index t = ![t.val, 7] := (by decide +kernel : ∀ t : Fin grid0.N, _)
  have e8 : ∀ t : Fin cfg0.N, win0_8.index t = ![t.val, 8] := (by decide +kernel : ∀ t : Fin grid0.N, _)
  have e9 : ∀ t : Fin cfg0.N, win0_9.index t = ![t.val, 9] := (by decide +kernel : ∀ t : Fin grid0.N, _)
  refine Eq.trans ?_ (arg0_at m c _ _)
  have hw' : w < 10 := by omega
  interval_cases w
  all_goals
    dsimp only [lanes]
    blk_simp [iblk]
    refine congrArg (V m c main_arg0) ?_
    blk_ext [e0, e1, e2, e3, e4, e5, e6, e7, e8, e9]

/-- What the body loads at grid point `t`. -/
def blk (t : Fin cfg0.N) : Loads Ideal :=
  blockLoads (lanes (iblk m c 0 t) (iblk m c 1 t) (iblk m c 2 t) (iblk m c 3 t) (iblk m c 4 t) (iblk m c 5 t) (iblk m c 6 t) (iblk m c 7 t) (iblk m c 8 t) (iblk m c 9 t)) (iblk m c 10 t) (iblk m c 11 t) (iblk m c 12 t) (iblk m c 13 t) (iblk m c 14 t) (iblk m c 15 t) (iblk m c 16 t)

/-- The loads at grid point `t` are its part of the problem. -/
theorem holds (t : Fin cfg0.N) : Holds (args m c) t (blk m c t) where
  raw q w i a l hr hw :=
    (lanes_at m c t w ⟨4 * i.val + 2 * (q % 2) + a.val, by omega⟩ l hr hw)
  gain w l hc := (iblk10_at m c t _).trans (congrArg (args m c).gain (Fin.ext (by
    show 128 * (w % 10) + l.val = 128 * w + l.val
    omega)))
  w1 n k l hn := (iblk11_at m c t _ _).trans (congrArg ((args m c).w1 k) (Fin.ext (by
    show 512 * (n % 10) + l.val = 512 * n + l.val
    omega)))
  s1 n l hn := (iblk12_at m c t _).trans (congrArg (args m c).s1 (Fin.ext (by
    show 512 * (n % 10) + l.val = 512 * n + l.val
    omega)))
  b1 n l hn := (iblk13_at m c t _).trans (congrArg (args m c).b1 (Fin.ext (by
    show 512 * (n % 10) + l.val = 512 * n + l.val
    omega)))
  w2 n k l hn := (iblk14_at m c t _ _).trans (congrArg ((args m c).w2 k) (Fin.ext (by
    show 512 * (n % 4) + l.val = 512 * n + l.val
    omega)))
  s2 n l hn := (iblk15_at m c t _).trans (congrArg (args m c).s2 (Fin.ext (by
    show 512 * (n % 4) + l.val = 512 * n + l.val
    omega)))
  b2 n l hn := (iblk16_at m c t _).trans (congrArg (args m c).b2 (Fin.ext (by
    show 512 * (n % 4) + l.val = 512 * n + l.val
    omega)))

/-! ## What each grid point leaves in the result blocks -/

theorem after_17 (t : Fin cfg0.N) : (dats m 0 c).after 17 t = codes1 (blk m c t) := by
  rw [after0_17, outsAt0]
  dsimp only
  rw [out_17, blk]

theorem after_18 (t : Fin cfg0.N) : (dats m 0 c).after 18 t = scaleRow (mScale (blk m c t)) := by
  rw [after0_18, outsAt0]
  dsimp only
  rw [out_18, blk]

theorem after_19 (t : Fin cfg0.N) : (dats m 0 c).after 19 t = codes2 (blk m c t) := by
  rw [after0_19, outsAt0]
  dsimp only
  rw [out_19, blk]

theorem after_20 (t : Fin cfg0.N) : (dats m 0 c).after 20 t = scaleRow (gScale (blk m c t) (codes1 (blk m c t))) := by
  rw [after0_20, outsAt0]
  dsimp only
  rw [out_20, blk]

theorem after_21 (t : Fin cfg0.N) : (dats m 0 c).after 21 t = merged (blk m c t) := by
  rw [after0_21, outsAt0]
  dsimp only
  rw [out_21, blk]

/-! ## The result arrays -/

theorem final17 : (dats m 0 c).arrAt 17 cfg0.N = Merger.codesArr (Merger.rCode (args m c)) := by
  refine (dats m 0 c).arrAt_eq_of_covers 17 _ (by decide +kernel) fun t hf y => ?_
  have e : ∀ t : Fin cfg0.N, win0_17.index t = ![t.val, 0] := (by decide +kernel : ∀ t : Fin grid0.N, _)
  blk_simp
  rw [after_17]
  obtain ⟨i, k, rfl⟩ : ∃ (i : Fin 256) (k : Fin 5120), y = ix2 i k := ⟨y 0, y 1, eq_ix2 y⟩
  have hy : ((View.whole main_v5_0).slice (win0_17.rect t)).emb (ix2 i k) = ix2 (row t i) k := by blk_ext [e]
  rw [hy]
  exact codes1_at (holds m c t) i k

theorem final19 : (dats m 0 c).arrAt 19 cfg0.N = Merger.codesArr (Merger.hCode (args m c)) := by
  refine (dats m 0 c).arrAt_eq_of_covers 19 _ (by decide +kernel) fun t hf y => ?_
  have e : ∀ t : Fin cfg0.N, win0_19.index t = ![t.val, 0] := (by decide +kernel : ∀ t : Fin grid0.N, _)
  blk_simp
  rw [after_19]
  obtain ⟨i, k, rfl⟩ : ∃ (i : Fin 256) (k : Fin 5120), y = ix2 i k := ⟨y 0, y 1, eq_ix2 y⟩
  have hy : ((View.whole main_v5_2).slice (win0_19.rect t)).emb (ix2 i k) = ix2 (row t i) k := by blk_ext [e]
  rw [hy]
  exact codes2_at (holds m c t) i k

theorem final18 : (dats m 0 c).arrAt 18 cfg0.N = Merger.scalesArr (Merger.rScale (args m c)) := by
  refine (dats m 0 c).arrAt_eq_of_covers 18 _ (by decide +kernel) fun t hf y => ?_
  have e : ∀ t : Fin cfg0.N, win0_18.index t = ![t.val, 0, 0] := (by decide +kernel : ∀ t : Fin grid0.N, _)
  blk_simp
  rw [after_18]
  obtain ⟨a, b, i, rfl⟩ : ∃ (a b : Fin 1) (i : Fin 256), y = ix3 a b i := ⟨y 0, y 1, y 2, eq_ix3 y⟩
  have ht : t.val < 9 := t.isLt
  have hy : ((View.whole main_v5_1).slice (win0_18.rect t)).emb (ix3 a b i) = ix3 (⟨t.val, ht⟩ : Fin 9) b i := by blk_ext [e]
  rw [hy, Merger.scalesArr_at, scaleRow_apply]
  refine (mScale_at (holds m c t) i).trans (congrArg (Merger.rScale _) ?_)
  exact (Fin.ext (by show 256 * t.val + i.val = t.val * 256 + i.val; omega))

theorem final20 : (dats m 0 c).arrAt 20 cfg0.N = Merger.scalesArr (Merger.hScale (args m c)) := by
  refine (dats m 0 c).arrAt_eq_of_covers 20 _ (by decide +kernel) fun t hf y => ?_
  have e : ∀ t : Fin cfg0.N, win0_20.index t = ![t.val, 0, 0] := (by decide +kernel : ∀ t : Fin grid0.N, _)
  blk_simp
  rw [after_20]
  obtain ⟨a, b, i, rfl⟩ : ∃ (a b : Fin 1) (i : Fin 256), y = ix3 a b i := ⟨y 0, y 1, y 2, eq_ix3 y⟩
  have ht : t.val < 9 := t.isLt
  have hy : ((View.whole main_v5_3).slice (win0_20.rect t)).emb (ix3 a b i) = ix3 (⟨t.val, ht⟩ : Fin 9) b i := by blk_ext [e]
  rw [hy, Merger.scalesArr_at, scaleRow_apply]
  refine (gScale_at (holds m c t) i).trans (congrArg (Merger.hScale _) ?_)
  exact (Fin.ext (by show 256 * t.val + i.val = t.val * 256 + i.val; omega))

theorem final21 : (dats m 0 c).arrAt 21 cfg0.N = Merger.outArr (Merger.out (args m c)) := by
  refine (dats m 0 c).arrAt_eq_of_covers 21 _ (by decide +kernel) fun t hf y => ?_
  have e : ∀ t : Fin cfg0.N, win0_21.index t = ![t.val, 0] := (by decide +kernel : ∀ t : Fin grid0.N, _)
  blk_simp
  rw [after_21]
  obtain ⟨i, l, rfl⟩ : ∃ (i : Fin 4096) (l : Fin 128), y = ix2 i l := ⟨y 0, y 1, eq_ix2 y⟩
  have ht : t.val < 9 := t.isLt
  have hi : 4096 * t.val + i.val < 36864 := by omega
  have hy : ((View.whole main_v5_4).slice (win0_21.rect t)).emb (ix2 i l) = ix2 ⟨4096 * t.val + i.val, hi⟩ l := by blk_ext [e]
  rw [hy, merged_at (holds m c t), Merger.outArr_at]
  refine congrArg₂ (Merger.out _) (Fin.ext ?_) (Fin.ext ?_)
  · show 256 * t.val + i.val / 16 = (4096 * t.val + i.val) / 16
    omega
  · show 128 * (i.val % 16) + l.val = (4096 * t.val + i.val) % 16 * 128 + l.val
    omega

theorem kept0 (r : PUnit × MemSt nD τ sig (Elt Ideal)) (h : Pipeline.FramePost cfgs (dats m) 0 (V m) r) :
    r.2.mem ((c : Thread nD τ).loc main_arg0) = m ((c : Thread nD τ).loc main_arg0) :=
  ((h c).1 9).trans (((dats m 0 c).arrAt_in 9 rfl _).trans ((A_eq m c 9).trans (Gen.V_main_arg0 m c)))

theorem kept1 (r : PUnit × MemSt nD τ sig (Elt Ideal)) (h : Pipeline.FramePost cfgs (dats m) 0 (V m) r) :
    r.2.mem ((c : Thread nD τ).loc main_arg1) = m ((c : Thread nD τ).loc main_arg1) :=
  ((h c).2 main_arg1 (Pipeline.mem_restRefs_of main_arg1 (by decide) (by decide))).trans (Gen.V_main_arg1 m c)

theorem kept2 (r : PUnit × MemSt nD τ sig (Elt Ideal)) (h : Pipeline.FramePost cfgs (dats m) 0 (V m) r) :
    r.2.mem ((c : Thread nD τ).loc main_arg2) = m ((c : Thread nD τ).loc main_arg2) :=
  ((h c).1 11).trans (((dats m 0 c).arrAt_in 11 rfl _).trans ((A_eq m c 11).trans (Gen.V_main_arg2 m c)))

theorem kept3 (r : PUnit × MemSt nD τ sig (Elt Ideal)) (h : Pipeline.FramePost cfgs (dats m) 0 (V m) r) :
    r.2.mem ((c : Thread nD τ).loc main_arg3) = m ((c : Thread nD τ).loc main_arg3) :=
  ((h c).2 main_arg3 (Pipeline.mem_restRefs_of main_arg3 (by decide) (by decide))).trans (Gen.V_main_arg3 m c)

theorem kept4 (r : PUnit × MemSt nD τ sig (Elt Ideal)) (h : Pipeline.FramePost cfgs (dats m) 0 (V m) r) :
    r.2.mem ((c : Thread nD τ).loc main_arg4) = m ((c : Thread nD τ).loc main_arg4) :=
  ((h c).2 main_arg4 (Pipeline.mem_restRefs_of main_arg4 (by decide) (by decide))).trans (Gen.V_main_arg4 m c)

theorem kept5 (r : PUnit × MemSt nD τ sig (Elt Ideal)) (h : Pipeline.FramePost cfgs (dats m) 0 (V m) r) :
    r.2.mem ((c : Thread nD τ).loc main_arg5) = m ((c : Thread nD τ).loc main_arg5) :=
  ((h c).1 14).trans (((dats m 0 c).arrAt_in 14 rfl _).trans ((A_eq m c 14).trans (Gen.V_main_arg5 m c)))

theorem kept6 (r : PUnit × MemSt nD τ sig (Elt Ideal)) (h : Pipeline.FramePost cfgs (dats m) 0 (V m) r) :
    r.2.mem ((c : Thread nD τ).loc main_arg6) = m ((c : Thread nD τ).loc main_arg6) :=
  ((h c).2 main_arg6 (Pipeline.mem_restRefs_of main_arg6 (by decide) (by decide))).trans (Gen.V_main_arg6 m c)

theorem kept7 (r : PUnit × MemSt nD τ sig (Elt Ideal)) (h : Pipeline.FramePost cfgs (dats m) 0 (V m) r) :
    r.2.mem ((c : Thread nD τ).loc main_arg7) = m ((c : Thread nD τ).loc main_arg7) :=
  ((h c).2 main_arg7 (Pipeline.mem_restRefs_of main_arg7 (by decide) (by decide))).trans (Gen.V_main_arg7 m c)

/-- The kernel ends with the row functions of its arguments in its five results, its arguments unchanged. -/
theorem run : θ_run defs (onTc (τ := τ) (main (F := Ideal))) ⟨m, fun _ => 0, ρ⟩ fun r => ∀ c : Dev nD,
      r.2.mem ((c : Thread nD τ).loc main_v5_0) = Merger.codesArr (Merger.rCode (args m c))
      ∧ r.2.mem ((c : Thread nD τ).loc main_v5_1) = Merger.scalesArr (Merger.rScale (args m c))
      ∧ r.2.mem ((c : Thread nD τ).loc main_v5_2) = Merger.codesArr (Merger.hCode (args m c))
      ∧ r.2.mem ((c : Thread nD τ).loc main_v5_3) = Merger.scalesArr (Merger.hScale (args m c))
      ∧ r.2.mem ((c : Thread nD τ).loc main_v5_4) = Merger.outArr (Merger.out (args m c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c =>
    ⟨((h c).1 17).trans (final17 m c), ((h c).1 18).trans (final18 m c), ((h c).1 19).trans (final19 m c),
      ((h c).1 20).trans (final20 m c), ((h c).1 21).trans (final21 m c), kept0 m c r h, kept1 m c r h, kept2 m c r h, kept3 m c r h, kept4 m c r h, kept5 m c r h, kept6 m c r h, kept7 m c r h⟩)
    (run_main m ρ)

end Cert.KernelIdeal.Rows

end

end
-- ==== Proof.Reference.Payloads.lean ====
/- What the reference's one call computes of its operands, entry by entry: the row functions of `Merger`. -/
module

public import proofs.«01_k».proof.Proof.Gen.ReferenceIdeal.Value
public import proofs.«01_k».proof.Proof.Spec

@[expose] public section

set_option maxRecDepth 16384

noncomputable section

namespace Cert.ReferenceIdeal.Rows

open Cert.ReferenceIdeal Cert.ReferenceIdeal.Gen
open Idealize.ShloMosaic Idealize.ShloMosaic.TcCoe

/-! ## The operations the call is made of, at an entry -/

theorem rowMax_at (v : FVec Ideal S2304x5120 .f32) (i : Fin 2304) :
    multiReduction .maximumf [1] S2304 (absf v) 0xFF800000#32 reduces_S2304x5120_S2304 (.inl rfl) rfl (ix1 i)
      = Merger.amax fun k => v (ix2 i k) := by
  pointwise [Merger.amax]

theorem scale_at (w : FVec Ideal S2304 .f32) (i : Fin 2304) : k0_pay6 w (ix1 i) = Merger.scale (w (ix1 i)) := by
  pointwise [k0_pay6, Merger.scale]

theorem code_at (v : FVec Ideal S2304x5120 .f32) (w : FVec Ideal S2304 .f32) (i : Fin 2304) (k : Fin 5120) :
    k0_pay7 v w (ix2 i k) = Merger.code (Merger.scale (w (ix1 i))) (v (ix2 i k)) := by
  rw [← scale_at]
  pointwise [k0_pay7, Merger.code]

theorem pay1_eq (v : Vec Ideal S2304x5120 .f32) : k0_pay1 v = v := shapeCast_id _ _

theorem pay2_eq (v : Vec Ideal S2304x5120 .f32) :
    k0_pay2 v = k0_pay6 (multiReduction .maximumf [1] S2304 (absf (k0_pay1 v)) 0xFF800000#32 reduces_S2304x5120_S2304 (.inl rfl) rfl) :=
  rfl

theorem pay3_eq (v : Vec Ideal S2304x5120 .f32) :
    k0_pay3 v = k0_pay7 (k0_pay1 v)
      (multiReduction .maximumf [1] S2304 (absf (k0_pay1 v)) 0xFF800000#32 reduces_S2304x5120_S2304 (.inl rfl) rfl) := rfl

theorem prod1_at (q : FVec Ideal S2304x5120 .fp8e4m3) (s : FVec Ideal S2304 .f32) (w : FVec Ideal S5120x5120 .fp8e4m3)
    (sc b : Vec Ideal S1x5120 .f32) (i : Fin 2304) (n : Fin 5120) :
    addf (mulf (mulf (matmul dot_S2304x5120_S5120x5120_S2304x5120_1_0_0_1_n_n none q w (constant S2304x5120 .f32 0x00000000#32))
        (broadcastTo S2304x5120 (shapeCast S2304x1 s shapeCasts_S2304_S2304x1 : FVec Ideal S2304x1 .f32) broadcasts_S2304x1_S2304x5120))
        (broadcastTo S2304x5120 (shapeCast S1x5120 sc shapeCasts_S1x5120_S1x5120 : FVec Ideal S1x5120 .f32) broadcasts_S1x5120_S2304x5120))
      (broadcastTo S2304x5120 (shapeCast S1x5120 b shapeCasts_S1x5120_S1x5120 : FVec Ideal S1x5120 .f32) broadcasts_S1x5120_S2304x5120)
      (ix2 i n)
      = Merger.affine (fun k => q (ix2 i k)) (s (ix1 i)) (fun k => w (ix2 k n)) (sc (ix2 0 n)) (b (ix2 0 n)) := by
  pointwise [Merger.affine]

theorem gelu_at (z : FVec Ideal S2304x5120 .f32) (i : Fin 2304) (n : Fin 5120) :
    mulf (mulf (broadcast S2304x5120 (Scalar.ofBits .f32 0x3F000000#32)) z)
      (addf (broadcast S2304x5120 (Scalar.ofBits .f32 0x3F800000#32))
        (erf (mulf z (broadcast S2304x5120 (Scalar.ofBits .f32 0x3F3504F3#32))))) (ix2 i n) = Merger.gelu (z (ix2 i n)) := by
  pointwise [Merger.gelu]

theorem prod2_at (v : FVec Ideal S2304x5120 .f32) (m : FVec Ideal S2304 .f32) (w : Vec Ideal S5120x2048 .fp8e4m3)
    (sc b : Vec Ideal S1x2048 .f32) (y : Fin 36864) (l : Fin 128) :
    k0_pay10 v m w sc b (ix2 y l)
      = Merger.affine (fun k => k0_pay7 v m (ix2 ⟨y.val / 16, by omega⟩ k)) (k0_pay6 m (ix1 ⟨y.val / 16, by omega⟩))
          (fun k => w (ix2 k ⟨y.val % 16 * 128 + l.val, by omega⟩)) (sc (ix2 0 ⟨y.val % 16 * 128 + l.val, by omega⟩))
          (b (ix2 0 ⟨y.val % 16 * 128 + l.val, by omega⟩)) := by
  pointwise [k0_pay10, Merger.affine]

theorem pay8_at (s : FVec Ideal S2304 .f32) (a : Fin 9) (z : Fin 1) (i : Fin 256) :
    k0_pay8 s (ix3 a z i) = s (ix1 ⟨a.val * 256 + i.val, by omega⟩) := by
  pointwise [k0_pay8]

theorem pay9_at (w : FVec Ideal S2304 .f32) (a : Fin 9) (z : Fin 1) (i : Fin 256) :
    k0_pay9 w (ix3 a z i) = k0_pay6 w (ix1 ⟨a.val * 256 + i.val, by omega⟩) := by
  pointwise [k0_pay9]

/-! ## The call's results, its operands being the problem's -/

variable (A : Merger.Args) (v : Vec Ideal S2304x5120 .f32) (hv : ∀ i k, v (ix2 i k) = Merger.r A i k)
variable (w1 : Vec Ideal S5120x5120 .fp8e4m3) (hw1 : ∀ k n, w1 (ix2 k n) = A.w1 k n)
variable (s1 b1 : Vec Ideal S1x5120 .f32) (hs1 : ∀ n, s1 (ix2 0 n) = A.s1 n) (hb1 : ∀ n, b1 (ix2 0 n) = A.b1 n)
variable (w2 : Vec Ideal S5120x2048 .fp8e4m3) (hw2 : ∀ k n, w2 (ix2 k n) = A.w2 k n)
variable (s2 b2 : Vec Ideal S1x2048 .f32) (hs2 : ∀ n, s2 (ix2 0 n) = A.s2 n) (hb2 : ∀ n, b2 (ix2 0 n) = A.b2 n)

include hv in
theorem rScale_at (i : Fin 2304) : k0_pay2 v (ix1 i) = Merger.rScale A i := by
  rw [pay2_eq, pay1_eq, scale_at, rowMax_at]
  simp only [hv]
  rfl

include hv in
theorem rCode_at (i : Fin 2304) (k : Fin 5120) : k0_pay3 v (ix2 i k) = Merger.rCode A i k := by
  rw [pay3_eq, pay1_eq, code_at, rowMax_at]
  simp only [hv]
  rfl

include hv hw1 hs1 hb1 in
theorem hid_at (i : Fin 2304) (n : Fin 5120) : k0_pay4 v w1 s1 b1 (ix2 i n) = Merger.hid A i n := by
  refine (gelu_at _ i n).trans ?_
  rw [prod1_at, rScale_at A v hv, hs1, hb1]
  simp only [rCode_at A v hv, hw1]
  rfl

include hv hw1 hs1 hb1 in
theorem hMax_at (i : Fin 2304) : k0_pay5 v w1 s1 b1 (ix1 i) = Merger.amax (Merger.hid A i) := by
  refine (rowMax_at _ i).trans ?_
  simp only [hid_at A v hv w1 hw1 s1 b1 hs1 hb1]

include hv hw1 hs1 hb1 in
theorem hScale_at (i : Fin 2304) : k0_pay6 (k0_pay5 v w1 s1 b1) (ix1 i) = Merger.hScale A i := by
  rw [scale_at, hMax_at A v hv w1 hw1 s1 b1 hs1 hb1]
  rfl

include hv hw1 hs1 hb1 in
theorem hCode_at (i : Fin 2304) (k : Fin 5120) :
    k0_pay7 (k0_pay4 v w1 s1 b1) (k0_pay5 v w1 s1 b1) (ix2 i k) = Merger.hCode A i k := by
  rw [code_at, hMax_at A v hv w1 hw1 s1 b1 hs1 hb1, hid_at A v hv w1 hw1 s1 b1 hs1 hb1]
  rfl

include hv hw1 hs1 hb1 hw2 hs2 hb2 in
theorem out_at (y : Fin 36864) (l : Fin 128) :
    k0_pay10 (k0_pay4 v w1 s1 b1) (k0_pay5 v w1 s1 b1) w2 s2 b2 (ix2 y l)
      = Merger.out A ⟨y.val / 16, by omega⟩ ⟨y.val % 16 * 128 + l.val, by omega⟩ := by
  rw [prod2_at, hScale_at A v hv w1 hw1 s1 b1 hs1 hb1, hs2, hb2]
  simp only [hCode_at A v hv w1 hw1 s1 b1 hs1 hb1, hw2]
  rfl

end Cert.ReferenceIdeal.Rows

end

end
-- ==== Proof.Reference.Value.lean ====
/- The reference's run: its five result arrays are the row functions of `Merger` of its arguments. -/
module

public import proofs.«01_k».proof.Proof.Reference.Payloads
public import Idealize.ShloMosaic.Lib.Pipeline.ValueKit
public import Idealize.ShloMosaic.Lib.Claim

@[expose] public section

set_option maxRecDepth 16384

noncomputable section

namespace Cert.ReferenceIdeal.Rows

open Cert.ReferenceIdeal Cert.ReferenceIdeal.Gen Cert.ReferenceIdeal.Value
open Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

/-- The problem stated by the argument arrays in memory. -/
def args : Merger.Args :=
  Merger.ofArrays (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-! ## The call's operands: the whole arrays -/

/-- The normalised rows, four to a merged row. -/
theorem v14_at (i : Fin 2304) (k : Fin 5120) : V m c main_v14 (ix2 i k) = Merger.r (args m c) i k := by
  entry_read
  pointwise [Merger.r, Merger.invRms, args, Merger.ofArrays]

theorem v15_at (n : Fin 5120) : V m c main_v15 (ix2 0 n) = (args m c).s1 n := by
  entry_read
  pointwise [args, Merger.ofArrays]

theorem v16_at (n : Fin 5120) : V m c main_v16 (ix2 0 n) = (args m c).b1 n := by
  entry_read
  pointwise [args, Merger.ofArrays]

theorem v17_at (n : Fin 2048) : V m c main_v17 (ix2 0 n) = (args m c).s2 n := by
  entry_read
  pointwise [args, Merger.ofArrays]

theorem v18_at (n : Fin 2048) : V m c main_v18 (ix2 0 n) = (args m c).b2 n := by
  entry_read
  pointwise [args, Merger.ofArrays]

theorem w1_at (k n : Fin 5120) : V m c main_arg2 (ix2 k n) = (args m c).w1 k n := by
  rw [V_main_arg2]; rfl

theorem w2_at (k : Fin 5120) (n : Fin 2048) : V m c main_arg5 (ix2 k n) = (args m c).w2 k n := by
  rw [V_main_arg5]; rfl

theorem iblk0_at (t : Fin cfg0.N) (i : Fin 2304) (k : Fin 5120) : iblk m c 0 t (ix2 i k) = Merger.r (args m c) i k := by
  have e : ∀ t : Fin cfg0.N, win0_0.index t = ![0, 0] := (by decide +kernel : ∀ t : Fin grid0.N, _)
  refine Eq.trans ?_ (v14_at m c i k)
  blk_simp [iblk]
  refine congrArg (V m c main_v14) ?_
  blk_ext [e]

theorem iblk1_at (t : Fin cfg0.N) (k n : Fin 5120) : iblk m c 1 t (ix2 k n) = (args m c).w1 k n := by
  have e : ∀ t : Fin cfg0.N, win0_1.index t = ![0, 0] := (by decide +kernel : ∀ t : Fin grid0.N, _)
  refine Eq.trans ?_ (w1_at m c k n)
  blk_simp [iblk]
  refine congrArg (V m c main_arg2) ?_
  blk_ext [e]

theorem iblk2_at (t : Fin cfg0.N) (n : Fin 5120) : iblk m c 2 t (ix2 0 n) = (args m c).s1 n := by
  have e : ∀ t : Fin cfg0.N, win0_2.index t = ![0, 0] := (by decide +kernel : ∀ t : Fin grid0.N, _)
  refine Eq.trans ?_ (v15_at m c n)
  blk_simp [iblk]
  refine congrArg (V m c main_v15) ?_
  blk_ext [e]

theorem iblk3_at (t : Fin cfg0.N) (n : Fin 5120) : iblk m c 3 t (ix2 0 n) = (args m c).b1 n := by
  have e : ∀ t : Fin cfg0.N, win0_3.index t = ![0, 0] := (by decide +kernel : ∀ t : Fin grid0.N, _)
  refine Eq.trans ?_ (v16_at m c n)
  blk_simp [iblk]
  refine congrArg (V m c main_v16) ?_
  blk_ext [e]

theorem iblk4_at (t : Fin cfg0.N) (k : Fin 5120) (n : Fin 2048) : iblk m c 4 t (ix2 k n) = (args m c).w2 k n := by
  have e : ∀ t : Fin cfg0.N, win0_4.index t = ![0, 0] := (by decide +kernel : ∀ t : Fin grid0.N, _)
  refine Eq.trans ?_ (w2_at m c k n)
  blk_simp [iblk]
  refine congrArg (V m c main_arg5) ?_
  blk_ext [e]

theorem iblk5_at (t : Fin cfg0.N) (n : Fin 2048) : iblk m c 5 t (ix2 0 n) = (args m c).s2 n := by
  have e : ∀ t : Fin cfg0.N, win0_5.index t = ![0, 0] := (by decide +kernel : ∀ t : Fin grid0.N, _)
  refine Eq.trans ?_ (v17_at m c n)
  blk_simp [iblk]
  refine congrArg (V m c main_v17) ?_
  blk_ext [e]

theorem iblk6_at (t : Fin cfg0.N) (n : Fin 2048) : iblk m c 6 t (ix2 0 n) = (args m c).b2 n := by
  have e : ∀ t : Fin cfg0.N, win0_6.index t = ![0, 0] := (by decide +kernel : ∀ t : Fin grid0.N, _)
  refine Eq.trans ?_ (v18_at m c n)
  blk_simp [iblk]
  refine congrArg (V m c main_v18) ?_
  blk_ext [e]

/-! ## The result arrays -/

theorem final7 : (dats m 0 c).arrAt 7 cfg0.N = Merger.codesArr (Merger.rCode (args m c)) := by
  refine (dats m 0 c).arrAt_eq_of_covers 7 _ (by decide +kernel) fun t hf y => ?_
  have e : ∀ t : Fin cfg0.N, win0_7.index t = ![0, 0] := (by decide +kernel : ∀ t : Fin grid0.N, _)
  blk_simp
  rw [after0_7]
  frame_out
  have hy : ((View.whole main_v19_0).slice (win0_7.rect t)).emb y = y := by blk_ext [e]
  rw [hy]
  obtain ⟨i, k, rfl⟩ : ∃ (i : Fin 2304) (k : Fin 5120), y = ix2 i k := ⟨y 0, y 1, eq_ix2 y⟩
  exact rCode_at _ _ (iblk0_at m c t) i k

theorem final8 : (dats m 0 c).arrAt 8 cfg0.N = Merger.scalesArr (Merger.rScale (args m c)) := by
  refine (dats m 0 c).arrAt_eq_of_covers 8 _ (by decide +kernel) fun t hf y => ?_
  have e : ∀ t : Fin cfg0.N, win0_8.index t = ![0, 0, 0] := (by decide +kernel : ∀ t : Fin grid0.N, _)
  blk_simp
  rw [after0_8]
  frame_out
  have hy : ((View.whole main_v19_1).slice (win0_8.rect t)).emb y = y := by blk_ext [e]
  rw [hy]
  obtain ⟨a, z, i, rfl⟩ : ∃ (a : Fin 9) (z : Fin 1) (i : Fin 256), y = ix3 a z i := ⟨y 0, y 1, y 2, eq_ix3 y⟩
  rw [pay8_at, rScale_at _ _ (iblk0_at m c t), Merger.scalesArr_at]

theorem final9 : (dats m 0 c).arrAt 9 cfg0.N = Merger.codesArr (Merger.hCode (args m c)) := by
  refine (dats m 0 c).arrAt_eq_of_covers 9 _ (by decide +kernel) fun t hf y => ?_
  have e : ∀ t : Fin cfg0.N, win0_9.index t = ![0, 0] := (by decide +kernel : ∀ t : Fin grid0.N, _)
  blk_simp
  rw [after0_9]
  frame_out [k0_pay11, k0_pay12]
  have hy : ((View.whole main_v19_2).slice (win0_9.rect t)).emb y = y := by blk_ext [e]
  rw [hy]
  obtain ⟨i, k, rfl⟩ : ∃ (i : Fin 2304) (k : Fin 5120), y = ix2 i k := ⟨y 0, y 1, eq_ix2 y⟩
  exact hCode_at _ _ (iblk0_at m c t) _ (iblk1_at m c t) _ _ (iblk2_at m c t) (iblk3_at m c t) i k

theorem final10 : (dats m 0 c).arrAt 10 cfg0.N = Merger.scalesArr (Merger.hScale (args m c)) := by
  refine (dats m 0 c).arrAt_eq_of_covers 10 _ (by decide +kernel) fun t hf y => ?_
  have e : ∀ t : Fin cfg0.N, win0_10.index t = ![0, 0, 0] := (by decide +kernel : ∀ t : Fin grid0.N, _)
  blk_simp
  rw [after0_10]
  frame_out [k0_pay12]
  have hy : ((View.whole main_v19_3).slice (win0_10.rect t)).emb y = y := by blk_ext [e]
  rw [hy]
  obtain ⟨a, z, i, rfl⟩ : ∃ (a : Fin 9) (z : Fin 1) (i : Fin 256), y = ix3 a z i := ⟨y 0, y 1, y 2, eq_ix3 y⟩
  rw [pay9_at, hScale_at _ _ (iblk0_at m c t) _ (iblk1_at m c t) _ _ (iblk2_at m c t) (iblk3_at m c t), Merger.scalesArr_at]

theorem final11 : (dats m 0 c).arrAt 11 cfg0.N = Merger.outArr (Merger.out (args m c)) := by
  refine (dats m 0 c).arrAt_eq_of_covers 11 _ (by decide +kernel) fun t hf y => ?_
  have e : ∀ t : Fin cfg0.N, win0_11.index t = ![0, 0] := (by decide +kernel : ∀ t : Fin grid0.N, _)
  blk_simp
  rw [after0_11]
  frame_out [k0_pay11, k0_pay12]
  have hy : ((View.whole main_v19_4).slice (win0_11.rect t)).emb y = y := by blk_ext [e]
  rw [hy]
  obtain ⟨i, l, rfl⟩ : ∃ (i : Fin 36864) (l : Fin 128), y = ix2 i l := ⟨y 0, y 1, eq_ix2 y⟩
  exact out_at _ _ (iblk0_at m c t) _ (iblk1_at m c t) _ _ (iblk2_at m c t) (iblk3_at m c t) _ (iblk4_at m c t) _ _
    (iblk5_at m c t) (iblk6_at m c t) i l

/-- The reference ends with the row functions of its arguments in its five results, its arguments unchanged. -/
theorem run : θ_run defs (onTc (τ := τ) (main (F := Ideal))) ⟨m, fun _ => 0, ρ⟩ fun r => ∀ c : Dev nD,
      r.2.mem ((c : Thread nD τ).loc main_v19_0) = Merger.codesArr (Merger.rCode (args m c))
      ∧ r.2.mem ((c : Thread nD τ).loc main_v19_1) = Merger.scalesArr (Merger.rScale (args m c))
      ∧ r.2.mem ((c : Thread nD τ).loc main_v19_2) = Merger.codesArr (Merger.hCode (args m c))
      ∧ r.2.mem ((c : Thread nD τ).loc main_v19_3) = Merger.scalesArr (Merger.hScale (args m c))
      ∧ r.2.mem ((c : Thread nD τ).loc main_v19_4) = Merger.outArr (Merger.out (args m c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c =>
    ⟨(h c).1.trans (final7 m c), (h c).2.1.trans (final8 m c), (h c).2.2.1.trans (final9 m c),
      (h c).2.2.2.1.trans (final10 m c), (h c).2.2.2.2.1.trans (final11 m c), (h c).2.2.2.2.2⟩) (run_blocks m ρ)

end Cert.ReferenceIdeal.Rows

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Bits.Frame
public import proofs.«01_k».proof.Proof.Ideal.Value
public import proofs.«01_k».proof.Proof.Reference.Value
public import Idealize.ShloMosaic.Lib.Bf16Pair
public import Idealize.ShloMosaic.Adequacy
public import Idealize.ShloMosaic.Init

@[expose] public section

noncomputable section

namespace Cert.Proof

open Idealize.ShloMosaic Idealize.SL.Sem Cert.Kernel

/-- The two programs' arguments agree, so the values both are stated by agree. -/
theorem args_eq {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ}
    {c : Dev Cert.KernelIdeal.nD}
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.ReferenceIdeal.Rows.args m' c = Cert.KernelIdeal.Rows.args m c := by
  obtain ⟨h0, h1, h2, h3, h4, h5, h6, h7⟩ := h
  rw [Cert.ReferenceIdeal.Rows.args, Cert.KernelIdeal.Rows.args, h0, h1, h2, h3, h4, h5, h6, h7]

/-- On the same arguments the kernel and the reference leave the same codes, scales and merged rows. -/
theorem algebraic :
    algebraic_KernelIdeal_ReferenceIdeal (hKernelIdeal := Cert.KernelIdeal.Gen.facts) (hReferenceIdeal := Cert.ReferenceIdeal.Gen.facts) := by
  intro m ρ m' ρ' _ hag
  refine ⟨fun c => Merger.codesArr (Merger.rCode (Cert.KernelIdeal.Rows.args m c)),
    fun c => Merger.scalesArr (Merger.rScale (Cert.KernelIdeal.Rows.args m c)),
    fun c => Merger.codesArr (Merger.hCode (Cert.KernelIdeal.Rows.args m c)),
    fun c => Merger.scalesArr (Merger.hScale (Cert.KernelIdeal.Rows.args m c)),
    fun c => Merger.outArr (Merger.out (Cert.KernelIdeal.Rows.args m c)),
    Cert.KernelIdeal.Rows.run m ρ, ?_⟩
  refine (θ_run _ _ _).mono (fun r h c => ?_) (Cert.ReferenceIdeal.Rows.run m' ρ')
  have e := args_eq (hag c)
  obtain ⟨h0, h1, h2, h3, h4, hk⟩ := h c
  rw [e] at h0 h1 h2 h3 h4
  exact ⟨h0, h1, h2, h3, h4, hk⟩

theorem claim : Cert.Claim := ⟨Cert.Kernel.Gen.facts, Cert.KernelIdeal.Gen.facts, Cert.ReferenceIdeal.Gen.facts,
  fun m ρ _ => Cert.Kernel.Body.frame m ρ,
  fun m ρ _ => Cert.KernelIdeal.Body.frame m ρ,
  fun m ρ _ => Cert.ReferenceIdeal.Gen.frame m ρ,
  ⟨IdealRules.bf16_pair.statement _ _, IdealRules.bf16_pair.statement _ _⟩,
  algebraic⟩

end Cert.Proof

end
